-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 1]⟩ ⟨2, ![8192, 1]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 256, 512]⟩ ⟨3, ![32, 256, 512]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![8192, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x32 : Shape := ⟨2, ![256, 32]⟩
abbrev S512x1 : Shape := ⟨2, ![512, 1]⟩
abbrev S2x256x512 : Shape := ⟨3, ![2, 256, 512]⟩
abbrev S256x512 : Shape := ⟨2, ![256, 512]⟩
abbrev S512x512 : Shape := ⟨2, ![512, 512]⟩
abbrev S4x256x512 : Shape := ⟨3, ![4, 256, 512]⟩
abbrev S4 : Shape := ⟨1, ![4]⟩
abbrev S_ : Shape := ⟨0, ![]⟩
abbrev S1x256x512 : Shape := ⟨3, ![1, 256, 512]⟩
abbrev S512x32 : Shape := ⟨2, ![512, 32]⟩
abbrev S512 : Shape := ⟨1, ![512]⟩
abbrev S1 : Shape := ⟨1, ![1]⟩

abbrev nBuf : Space → Nat
  | .hbm => 6
  | .vmem => 9
  | .smem => 0
  | _ => 0

abbrev bufTy : (tb : Table) → Fin (tcTables nBuf tb) → BufTy
  | .hbm, ⟨0, _⟩ => ⟨S512x256, .f32⟩
  | .hbm, ⟨1, _⟩ => ⟨S256x32, .f32⟩
  | .hbm, ⟨2, _⟩ => ⟨S512x1, .i32⟩
  | .hbm, ⟨3, _⟩ => ⟨S2x256x512, .f32⟩
  | .hbm, ⟨4, _⟩ => ⟨S256x512, .f32⟩
  | .hbm, ⟨5, _⟩ => ⟨S512x512, .f32⟩
  | .local _ .vmem, ⟨0, _⟩ => ⟨S512x256, .f32⟩
  | .local _ .vmem, ⟨1, _⟩ => ⟨S256x32, .f32⟩
  | .local _ .vmem, ⟨2, _⟩ => ⟨S512x1, .i32⟩
  | .local _ .vmem, ⟨3, _⟩ => ⟨S2x256x512, .f32⟩
  | .local _ .vmem, ⟨4, _⟩ => ⟨S256x512, .f32⟩
  | .local _ .vmem, ⟨5, _⟩ => ⟨S512x512, .f32⟩
  | .local _ .vmem, ⟨6, _⟩ => ⟨S2x256x512, .bf16⟩
  | .local _ .vmem, ⟨7, _⟩ => ⟨S4x256x512, .bf16⟩
  | .local _ .vmem, ⟨8, _⟩ => ⟨S4x256x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_36 : BitVec 32 := 1#32
  let v53 : BitVec 32 := Scalar.muli v7 c1_i32_36
  let v54 : BitVec 32 := Scalar.addi c0_i32_37 v53
  v54.toNat
def k0_dev4 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_46 : BitVec 32 := 1#32
  let v63 : BitVec 32 := Scalar.muli v5 c1_i32_46
  let v64 : BitVec 32 := Scalar.addi c0_i32_47 v63
  v64.toNat
def k0_dev5 (d0 : Dev nD) : Nat :=
  let c0_i32_111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_110 : BitVec 32 := 1#32
  let v131 : BitVec 32 := Scalar.muli v7 c1_i32_110
  let v132 : BitVec 32 := Scalar.addi c0_i32_111 v131
  v132.toNat
def k0_dev6 (d0 : Dev nD) : Nat :=
  let c0_i32_121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_120 : BitVec 32 := 1#32
  let v141 : BitVec 32 := Scalar.muli v5 c1_i32_120
  let v142 : BitVec 32 := Scalar.addi c0_i32_121 v141
  v142.toNat
def k0_dev7 (d0 : Dev nD) : Nat :=
  let c0_i32_184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_183 : BitVec 32 := 1#32
  let v209 : BitVec 32 := Scalar.muli v7 c1_i32_183
  let v210 : BitVec 32 := Scalar.addi c0_i32_184 v209
  v210.toNat
def k0_dev8 (d0 : Dev nD) : Nat :=
  let c0_i32_194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_193 : BitVec 32 := 1#32
  let v219 : BitVec 32 := Scalar.muli v5 c1_i32_193
  let v220 : BitVec 32 := Scalar.addi c0_i32_194 v219
  v220.toNat
def k0_dev9 (d0 : Dev nD) : Nat :=
  let c0_i32_257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_256 : BitVec 32 := 1#32
  let v287 : BitVec 32 := Scalar.muli v7 c1_i32_256
  let v288 : BitVec 32 := Scalar.addi c0_i32_257 v287
  v288.toNat
def k0_dev10 (d0 : Dev nD) : Nat :=
  let c0_i32_267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_266 : BitVec 32 := 1#32
  let v297 : BitVec 32 := Scalar.muli v5 c1_i32_266
  let v298 : BitVec 32 := Scalar.addi c0_i32_267 v297
  v298.toNat
def k0_dev11 (d0 : Dev nD) : Nat :=
  let c0_i32_330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_329 : BitVec 32 := 1#32
  let v365 : BitVec 32 := Scalar.muli v7 c1_i32_329
  let v366 : BitVec 32 := Scalar.addi c0_i32_330 v365
  v366.toNat
def k0_dev12 (d0 : Dev nD) : Nat :=
  let c0_i32_340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_339 : BitVec 32 := 1#32
  let v375 : BitVec 32 := Scalar.muli v5 c1_i32_339
  let v376 : BitVec 32 := Scalar.addi c0_i32_340 v375
  v376.toNat
def k0_dev13 (d0 : Dev nD) : Nat :=
  let c0_i32_403 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_402 : BitVec 32 := 1#32
  let v443 : BitVec 32 := Scalar.muli v7 c1_i32_402
  let v444 : BitVec 32 := Scalar.addi c0_i32_403 v443
  v444.toNat
def k0_dev14 (d0 : Dev nD) : Nat :=
  let c0_i32_413 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_412 : BitVec 32 := 1#32
  let v453 : BitVec 32 := Scalar.muli v5 c1_i32_412
  let v454 : BitVec 32 := Scalar.addi c0_i32_413 v453
  v454.toNat
def k0_dev15 (d0 : Dev nD) : Nat :=
  let c0_i32_476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_475 : BitVec 32 := 1#32
  let v521 : BitVec 32 := Scalar.muli v7 c1_i32_475
  let v522 : BitVec 32 := Scalar.addi c0_i32_476 v521
  v522.toNat
def k0_dev16 (d0 : Dev nD) : Nat :=
  let c0_i32_486 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_485 : BitVec 32 := 1#32
  let v531 : BitVec 32 := Scalar.muli v5 c1_i32_485
  let v532 : BitVec 32 := Scalar.addi c0_i32_486 v531
  v532.toNat
def k0_dev17 (d0 : Dev nD) : Nat :=
  let c0_i32_549 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_548 : BitVec 32 := 1#32
  let v599 : BitVec 32 := Scalar.muli v7 c1_i32_548
  let v600 : BitVec 32 := Scalar.addi c0_i32_549 v599
  v600.toNat
def k0_dev18 (d0 : Dev nD) : Nat :=
  let c0_i32_559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_558 : BitVec 32 := 1#32
  let v609 : BitVec 32 := Scalar.muli v5 c1_i32_558
  let v610 : BitVec 32 := Scalar.addi c0_i32_559 v609
  v610.toNat
def k0_dev19 (d0 : Dev nD) : Nat :=
  let c0_i32_622 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_621 : BitVec 32 := 1#32
  let v677 : BitVec 32 := Scalar.muli v7 c1_i32_621
  let v678 : BitVec 32 := Scalar.addi c0_i32_622 v677
  v678.toNat
def k0_dev20 (d0 : Dev nD) : Nat :=
  let c0_i32_632 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_631 : BitVec 32 := 1#32
  let v687 : BitVec 32 := Scalar.muli v5 c1_i32_631
  let v688 : BitVec 32 := Scalar.addi c0_i32_632 v687
  v688.toNat
def k0_dev21 (d0 : Dev nD) : Nat :=
  let c0_i32_695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_694 : BitVec 32 := 1#32
  let v755 : BitVec 32 := Scalar.muli v7 c1_i32_694
  let v756 : BitVec 32 := Scalar.addi c0_i32_695 v755
  v756.toNat
def k0_dev22 (d0 : Dev nD) : Nat :=
  let c0_i32_705 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_704 : BitVec 32 := 1#32
  let v765 : BitVec 32 := Scalar.muli v5 c1_i32_704
  let v766 : BitVec 32 := Scalar.addi c0_i32_705 v765
  v766.toNat
def k0_dev23 (d0 : Dev nD) : Nat :=
  let c0_i32_768 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_767 : BitVec 32 := 1#32
  let v833 : BitVec 32 := Scalar.muli v7 c1_i32_767
  let v834 : BitVec 32 := Scalar.addi c0_i32_768 v833
  v834.toNat
def k0_dev24 (d0 : Dev nD) : Nat :=
  let c0_i32_778 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_777 : BitVec 32 := 1#32
  let v843 : BitVec 32 := Scalar.muli v5 c1_i32_777
  let v844 : BitVec 32 := Scalar.addi c0_i32_778 v843
  v844.toNat
def k0_dev25 (d0 : Dev nD) : Nat :=
  let c0_i32_841 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_840 : BitVec 32 := 1#32
  let v911 : BitVec 32 := Scalar.muli v7 c1_i32_840
  let v912 : BitVec 32 := Scalar.addi c0_i32_841 v911
  v912.toNat
def k0_dev26 (d0 : Dev nD) : Nat :=
  let c0_i32_851 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_850 : BitVec 32 := 1#32
  let v921 : BitVec 32 := Scalar.muli v5 c1_i32_850
  let v922 : BitVec 32 := Scalar.addi c0_i32_851 v921
  v922.toNat
def k0_dev27 (d0 : Dev nD) : Nat :=
  let c0_i32_914 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_913 : BitVec 32 := 1#32
  let v989 : BitVec 32 := Scalar.muli v7 c1_i32_913
  let v990 : BitVec 32 := Scalar.addi c0_i32_914 v989
  v990.toNat
def k0_dev28 (d0 : Dev nD) : Nat :=
  let c0_i32_924 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_923 : BitVec 32 := 1#32
  let v999 : BitVec 32 := Scalar.muli v5 c1_i32_923
  let v1000 : BitVec 32 := Scalar.addi c0_i32_924 v999
  v1000.toNat
def k0_dev29 (d0 : Dev nD) : Nat :=
  let c0_i32_987 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_986 : BitVec 32 := 1#32
  let v1067 : BitVec 32 := Scalar.muli v7 c1_i32_986
  let v1068 : BitVec 32 := Scalar.addi c0_i32_987 v1067
  v1068.toNat
def k0_dev30 (d0 : Dev nD) : Nat :=
  let c0_i32_997 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_996 : BitVec 32 := 1#32
  let v1077 : BitVec 32 := Scalar.muli v5 c1_i32_996
  let v1078 : BitVec 32 := Scalar.addi c0_i32_997 v1077
  v1078.toNat
def k0_dev31 (d0 : Dev nD) : Nat :=
  let c0_i32_1060 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1059 : BitVec 32 := 1#32
  let v1145 : BitVec 32 := Scalar.muli v7 c1_i32_1059
  let v1146 : BitVec 32 := Scalar.addi c0_i32_1060 v1145
  v1146.toNat
def k0_dev32 (d0 : Dev nD) : Nat :=
  let c0_i32_1070 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1069 : BitVec 32 := 1#32
  let v1155 : BitVec 32 := Scalar.muli v5 c1_i32_1069
  let v1156 : BitVec 32 := Scalar.addi c0_i32_1070 v1155
  v1156.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S8192x256 : Shape := ⟨2, ![8192, 256]⟩
abbrev S256x32 : Shape := ⟨2, ![256, 32]⟩
abbrev S8192x1 : Shape := ⟨2, ![8192, 1]⟩
abbrev S32x256x512 : Shape := ⟨3, ![32, 256, 512]⟩
abbrev S256x512 : Shape := ⟨2, ![256, 512]⟩
abbrev S8192x32 : Shape := ⟨2, ![8192, 32]⟩
abbrev S_ : Shape := ⟨0, ![]⟩
abbrev S8192 : Shape := ⟨1, ![8192]⟩
abbrev S8192x512 : Shape := ⟨2, ![8192, 512]⟩
abbrev S8192x32x512 : Shape := ⟨3, ![8192, 32, 512]⟩
abbrev S32 : Shape := ⟨1, ![32]⟩
abbrev S1x32 : Shape := ⟨2, ![1, 32]⟩
abbrev S8192x32x1 : Shape := ⟨3, ![8192, 32, 1]⟩

abbrev nBuf : Space → Nat
  | .hbm => 36
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x32, .f32⟩
  | .hbm, ⟨2, _⟩ => ⟨S8192x1, .i32⟩
  | .hbm, ⟨3, _⟩ => ⟨S32x256x512, .f32⟩
  | .hbm, ⟨4, _⟩ => ⟨S256x512, .f32⟩
  | .hbm, ⟨5, _⟩ => ⟨S8192x32, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S8192x32, .f32⟩
  | .hbm, ⟨10, _⟩ => ⟨S8192x32, .f32⟩
  | .hbm, ⟨11, _⟩ => ⟨S8192x32, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S8192x32, .f32⟩
  | .hbm, ⟨16, _⟩ => ⟨S8192x32, .f32⟩
  | .hbm, ⟨17, _⟩ => ⟨S8192x512, .f32⟩
  | .hbm, ⟨18, _⟩ => ⟨S8192x32x512, .f32⟩
  | .hbm, ⟨19, _⟩ => ⟨S32, .i32⟩
  | .hbm, ⟨20, _⟩ => ⟨S1x32, .i32⟩
  | .hbm, ⟨21, _⟩ => ⟨S8192x32, .i32⟩
  | .hbm, ⟨22, _⟩ => ⟨S8192x32, .i32⟩
  | .hbm, ⟨23, _⟩ => ⟨S8192x32, .i1⟩
  | .hbm, ⟨24, _⟩ => ⟨S8192x32x1, .i1⟩
  | .hbm, ⟨25, _⟩ => ⟨S8192x32x1, .f32⟩
  | .hbm, ⟨26, _⟩ => ⟨S8192x32x512, .f32⟩
  | .hbm, ⟨27, _⟩ => ⟨S8192x32x512, .f32⟩
  | .hbm, ⟨28, _⟩ => ⟨S_, .f32⟩
  | .hbm, ⟨29, _⟩ => ⟨S_, .f32⟩
  | .hbm, ⟨30, _⟩ => ⟨S8192x32x512, .i1⟩
  | .hbm, ⟨31, _⟩ => ⟨S8192x32x512, .f32⟩
  | .hbm, ⟨32, _⟩ => ⟨S8192x32x512, .f32⟩
  | .hbm, ⟨33, _⟩ => ⟨S_, .f32⟩
  | .hbm, ⟨34, _⟩ => ⟨S8192x512, .f32⟩
  | .hbm, ⟨35, _⟩ => ⟨S8192x512, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== Proof.Proto.lean ====
/-
# The ring's protocol

Sixteen devices stand in a ring. Each device holds two blocks of expert weights; a copy of the first travels
clockwise, one of the second counter-clockwise, one device further at each hop, through four landing slots per
direction. This module states the protocol: the cells, what each block holds, the rounds of each cell and what each
round hands to the cell's owner, the order of waiting.

A hop `h` of direction `dd` copies the block in slot `h % 4` (at hop 0: the staged row) into slot `(h + 1) % 4` of the
device `step dd c`. A slot is written again four hops later, so its owner has to give it back. It gives the first four
writes of each direction away with the entry signal, and write number `h + 2` with its own copy of hop `h` in the
OTHER direction, which goes to the device that will do that write; the slot is free by then, because the owner has
waited for its own copy out of it, that of hop `h - 1`, before. The receiver may do that write once hop `h` has landed.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the pipeline library's copy, and the ring's with two duty names -/

abbrev RingU : Type := URounds (GSem nD τ sig) Bool
abbrev AllU : Type := UR sig nD τ × RingU

local notation "𝕄" => MT nD τ sig ℕ (Elt F) ℕ AllU ℕ

abbrev EP : Emb (UR sig nD τ) (MT nD τ sig ℕ (Elt F) ℕ AllU ℕ) := embL
abbrev ER : Emb RingU (MT nD τ sig ℕ (Elt F) ℕ AllU ℕ) := embR

variable (m : (ℓ : Loc nD τ sig) → Buf (Elt F) ℓ) (ρ : Dev nD → PrngReg)

/-- The machine at launch: any memory, every counter zero, any generator registers. -/
def st₀ : MemSt nD τ sig (Elt F) := ⟨m, fun _ => 0, ρ⟩

/-! ## The ring -/

set_option backward.proofsInPublic true in
/-- The clockwise neighbour, -/
def nxt (c : Dev nD) : Dev nD := ⟨(c.val + 1) % 16, Nat.mod_lt _ (by decide)⟩
set_option backward.proofsInPublic true in
/-- the counter-clockwise one, -/
def prv (c : Dev nD) : Dev nD := ⟨(c.val + 15) % 16, Nat.mod_lt _ (by decide)⟩

/-- and the one a block of direction `dd` goes to (`true`: clockwise). It comes from `step (!dd)`. -/
def step : Bool → Dev nD → Dev nD
  | true => nxt
  | false => prv

theorem step_step_not (dd : Bool) (c : Dev nD) : step dd (step (!dd) c) = c := by revert dd c; decide
theorem step_not_step (dd : Bool) (c : Dev nD) : step (!dd) (step dd c) = c := by revert dd c; decide

def around (dd : Bool) : Dev nD ≃ Dev nD := ⟨step dd, step (!dd), step_not_step dd, step_step_not dd⟩

/-! ## Semaphores, slots and cells -/

/-- The slot a number names. -/
def slot (n : ℕ) : Fin 4 := ⟨n % 4, Nat.mod_lt _ (by decide)⟩

/-- The kernel's own DMA semaphores: whether it counts landings (rather than departures), the direction, the slot. -/
abbrev Own : Type := Bool × Bool × Fin 4

/-- Their numbers. -/
def ownNo (k : Own) : ℕ := 6 + (if k.1 then 4 else 0) + (if k.2.1 then 0 else 8) + k.2.2.val

theorem ownNo_lt (k : Own) : ownNo k < 22 := by
  obtain ⟨a, b, s⟩ := k
  have := s.isLt
  unfold ownNo; dsimp only; split <;> split <;> omega

/-- The semaphore array of a kind and direction. -/
def semArr : Bool → Bool → DmaSems sig S4
  | false, true => cc0_scratch3
  | true, true => cc0_scratch4
  | false, false => cc0_scratch5
  | true, false => cc0_scratch6

abbrev osem (k : Own) : SemLoc sig := .dma ⟨ownNo k, ownNo_lt k⟩

/-- The barrier semaphore of the kernel's collective id. -/
abbrev barS : Sem sig := (SemArray.scalar (sig.barrier 0 rfl) : Sems sig S_).sem

abbrev barCell (c : Dev nD) : GSem nD τ sig := ((c : Thread nD τ), .reg barS)
abbrev ownCell (c : Dev nD) (k : Own) : GSem nD τ sig := ((c : Thread nD τ), osem k)
/-- The cell counting the departure of hop `n`, and the one counting its landing. -/
abbrev sendK (dd : Bool) (n : ℕ) : Own := (false, dd, slot n)
abbrev recvK (dd : Bool) (n : ℕ) : Own := (true, dd, slot (n + 1))
abbrev sendCell (c : Dev nD) (dd : Bool) (n : ℕ) : GSem nD τ sig := ownCell c (sendK dd n)
abbrev recvCell (c : Dev nD) (dd : Bool) (n : ℕ) : GSem nD τ sig := ownCell c (recvK dd n)

/-! ## The buffers -/

abbrev stageM : Memref sig .tc .vmem S2x256x512 .bf16 := Memref.whole cc0_scratch0
/-- The four landing slots of a direction. -/
def ringM : Bool → Memref sig .tc .vmem S4x256x512 .bf16
  | true => Memref.whole cc0_scratch1
  | false => Memref.whole cc0_scratch2

theorem slot_inb (s : Fin 4) : ∀ a, (![s.val, 0, 0] : Fin 3 → Nat) a + S1x256x512.size a ≤ S4x256x512.size a := by
  revert s; decide
theorem row_inb (s : Fin 2) : ∀ a, (![s.val, 0, 0] : Fin 3 → Nat) a + S1x256x512.size a ≤ S2x256x512.size a := by
  revert s; decide

/-- One slot's rectangle, and one staged row's. -/
abbrev slotR (s : Fin 4) : Rect S4x256x512 := Rect.unit (s := S4x256x512) ![s.val, 0, 0] S1x256x512.size (slot_inb s)
abbrev rowR (s : Fin 2) : Rect S2x256x512 := Rect.unit (s := S2x256x512) ![s.val, 0, 0] S1x256x512.size (row_inb s)

/-- The row of the staging buffer a direction starts from. -/
def rowOf : Bool → Fin 2
  | true => 0
  | false => 1

/-- One slot, and one staged row, as matrices. -/
def slotM (dd : Bool) (n : ℕ) : Memref sig .tc .vmem S256x512 .bf16 :=
  ((ringM dd).slice (slotR (slot n)) (fun _ => rfl)).squeeze S256x512 squeezes_S1x256x512_S256x512
def rowM (dd : Bool) : Memref sig .tc .vmem S256x512 .bf16 :=
  (stageM.slice (rowR (rowOf dd)) (fun _ => rfl)).squeeze S256x512 squeezes_S1x256x512_S256x512

/-- Where the copy of hop `h` reads. -/
def srcM (dd : Bool) : ℕ → Memref sig .tc .vmem S256x512 .bf16
  | 0 => rowM dd
  | h + 1 => slotM dd (h + 1)

/-- The credit of one copy. -/
def N : ℕ := (slotM true 0).view.dmaCredit
theorem N_pos : 0 < N := View.dmaCredit_pos _ (by decide)
theorem amount_slot (dd : Bool) (n : ℕ) (k : Own) : (slotM dd n).view.amount (osem k) = N := by cases dd <;> rfl

/-! ## Contents -/

section Contents
variable (c : Dev nD)

/-- The blocks the launch stages on device `c`. -/
def xIn : (cc0_stg0_0 : Ref sig .tc).ty.Contents (Elt F) := (win0_0.blk (0 : Fin 1)).view.read (Elt F) ((st₀ m ρ).mem ((c : Thread nD τ).loc main_arg0))
def rwIn : (cc0_stg1_0 : Ref sig .tc).ty.Contents (Elt F) := (win0_1.blk (0 : Fin 1)).view.read (Elt F) ((st₀ m ρ).mem ((c : Thread nD τ).loc main_arg1))
def idIn : (cc0_stg2_0 : Ref sig .tc).ty.Contents (Elt F) := (win0_2.blk (0 : Fin 1)).view.read (Elt F) ((st₀ m ρ).mem ((c : Thread nD τ).loc main_arg2))
def ewIn : (cc0_stg3_0 : Ref sig .tc).ty.Contents (Elt F) := (win0_3.blk (0 : Fin 1)).view.read (Elt F) ((st₀ m ρ).mem ((c : Thread nD τ).loc main_arg3))
def swIn : (cc0_stg4_0 : Ref sig .tc).ty.Contents (Elt F) := (win0_4.blk (0 : Fin 1)).view.read (Elt F) ((st₀ m ρ).mem ((c : Thread nD τ).loc main_arg4))

/-- A block of weights as it travels. -/
abbrev Blk (F : FTy → Type) [FloatOps F] : Type := Vec F S1x256x512 .bf16
abbrev sq (w : Blk F) : Vec F S256x512 .bf16 := shapeCast S256x512 w shapeCasts_S1x256x512_S256x512

theorem sq_inj {v w : Blk F} (h : sq v = sq w) : v = w := by
  have := congrArg (fun u : Vec F S256x512 .bf16 => shapeCast S1x256x512 u shapeCasts_S256x512_S1x256x512) h
  simpa only [sq, shapeCast_shapeCast] using this

/-- Device `c`'s own two blocks, narrowed. -/
def W : Bool → Blk F
  | true => k0_pay2 ((Memref.whole cc0_stg3_0 : Memref sig .tc .vmem S2x256x512 .f32).view.readAt (Elt F) (rowR 0).toLoadRect (ewIn m ρ c))
  | false => k0_pay3 ((Memref.whole cc0_stg3_0 : Memref sig .tc .vmem S2x256x512 .f32).view.readAt (Elt F) (rowR 1).toLoadRect (ewIn m ρ c))

/-- The block of direction `dd` that device `c` computes with, and passes on, at hop `h`. -/
def blk (dd : Bool) : ℕ → Dev nD → Blk F
  | 0, c => W m ρ c dd
  | h + 1, c => blk dd h (step (!dd) c)

theorem blk_to (dd : Bool) (h : ℕ) : blk m ρ dd (h + 1) (step dd c) = blk m ρ dd h c := by
  show blk m ρ dd h (step (!dd) (step dd c)) = _
  rw [step_not_step]

end Contents

/-! ## What the rounds hand over -/

/-- The writes of a direction up to which the receiver's slots have been given away when hop `h` begins. -/
def B (h : ℕ) : ℕ := max 4 (min 15 (h + 2))

/-- Leave to do write `j` of direction `dd` into device `d`: the slot, and that its landing cell has come to that
    write's round. -/
def free (dd : Bool) (d : Dev nD) (j : ℕ) : sProp 𝕄 :=
  iprop((∃ v, owns (d : Thread nD τ) (slotM dd (j + 1)) fullShare v) ∗ reached ER (recvCell d dd j) (j / 4))

/-- The entry signal of `step dd c`: leave to do the first four writes into its slots. -/
def barPay (c : Dev nD) (dd : Bool) : sProp 𝕄 := bigSep (Finset.Ico 0 4) fun j => free (F := F) dd (step dd c) j
/-- The departure of hop `h`: half the source's share back. -/
def sendPay (c : Dev nD) (dd : Bool) (h : ℕ) : sProp 𝕄 :=
  owns (c : Thread nD τ) (srcM dd h) fullShare.left (sq (blk m ρ dd h c))
/-- The landing of hop `h`: the slot with the block, and leave to do a later write of the other direction into the sender. -/
def recvPay (c : Dev nD) (dd : Bool) (h : ℕ) : sProp 𝕄 :=
  iprop(owns (c : Thread nD τ) (slotM dd (h + 1)) fullShare (sq (blk m ρ dd (h + 1) c))
    ∗ bigSep (Finset.Ico (B h) (B (h + 1))) fun j => free (F := F) (!dd) (step (!dd) c) j)

/-! ## The schedule -/

/-- The kind, direction and slot of a semaphore number. -/
def kindOf (q : ℕ) : Bool := decide ((q - 6) / 4 % 2 = 1)
def dirOf (q : ℕ) : Bool := decide ((q - 6) / 4 < 2)
/-- The hop whose departure from (landing in) slot `s` is round 0 of the cell. -/
def first (k : Bool) (s : ℕ) : ℕ := if k then (s + 3) % 4 else s
/-- The hop that round `r` of a cell belongs to. -/
def hopOf (q r : ℕ) : ℕ := 4 * r + first (kindOf q) ((q - 6) % 4)

/-- A barrier cell has one round, with a duty of one unit for each neighbour; a departure or landing cell one round for
    each hop that uses it, with one duty of a copy's credit. -/
def ringRd : Rounds.Schedule (GSem nD τ sig) Bool 𝕄 where
  duties g r := if g.1.2 = .tc then
      (match g.2 with
      | .reg _ => if r = 0 then Finset.univ else ∅
      | .dma q => if 6 ≤ q.val ∧ hopOf q.val r < 15 then {false} else ∅) else ∅
  unitless _ := False
  amount g _ _ := match g.2 with
    | .reg _ => 1
    | .dma _ => N
  payload g r d := match g.2 with
    | .reg _ => barPay g.1.1 d
    | .dma q => if kindOf q.val then recvPay m ρ g.1.1 (dirOf q.val) (hopOf q.val r) else sendPay m ρ g.1.1 (dirOf q.val) (hopOf q.val r)
  amount_pos g r d _ := by
    split
    · exact Nat.one_pos
    · exact N_pos

instance free_storable (dd : Bool) (d : Dev nD) (j : ℕ) : BI.Storable (upEmb : UEmb _ 𝕄) (free (F := F) dd d j) := by
  unfold free; infer_instance

instance ringRd_payload_storable (g : GSem nD τ sig) (r : ℕ) (d : Bool) :
    BI.Storable (upEmb : UEmb _ 𝕄) ((ringRd (F := F) m ρ).payload g r d) := by
  unfold ringRd barPay recvPay sendPay
  dsimp only
  split
  · infer_instance
  · split <;> infer_instance

section Sched
variable (c : Dev nD)

theorem kindOf_own (k : Own) : kindOf (ownNo k) = k.1 := by revert k; decide
theorem dirOf_own (k : Own) : dirOf (ownNo k) = k.2.1 := by revert k; decide
theorem slotOf_own (k : Own) : (ownNo k - 6) % 4 = k.2.2.val := by revert k; decide
theorem ownNo_ge (k : Own) : 6 ≤ ownNo k := by unfold ownNo; omega
theorem hopOf_own (k : Own) (r : ℕ) : hopOf (ownNo k) r = 4 * r + first k.1 k.2.2.val := by
  unfold hopOf; rw [kindOf_own, slotOf_own]

theorem hop_send (dd : Bool) (h : ℕ) : hopOf (ownNo (sendK dd h)) (h / 4) = h := by
  rw [hopOf_own]; show 4 * (h / 4) + h % 4 = h; omega
theorem hop_recv (dd : Bool) (h : ℕ) : hopOf (ownNo (recvK dd h)) (h / 4) = h := by
  rw [hopOf_own]; show 4 * (h / 4) + ((h + 1) % 4 + 3) % 4 = h; omega

theorem osem_inj : Function.Injective osem := by
  intro a b h
  have h' : ownNo a = ownNo b := by
    have := SemLoc.dma.inj h; exact congrArg Fin.val this
  revert h'; revert a b; decide

theorem duties_bar : (ringRd (F := F) m ρ).duties (barCell c) 0 = Finset.univ := by
  dsimp only [ringRd]; rw [if_pos rfl]; rfl
theorem duties_own (k : Own) (r : ℕ) (h : hopOf (ownNo k) r < 15) : (ringRd (F := F) m ρ).duties (ownCell c k) r = {false} := by
  dsimp only [ringRd]; rw [if_pos rfl, if_pos ⟨ownNo_ge k, h⟩]
theorem duties_own_late (k : Own) (r : ℕ) (h : 15 ≤ hopOf (ownNo k) r) : (ringRd (F := F) m ρ).duties (ownCell c k) r = ∅ := by
  dsimp only [ringRd]; rw [if_pos rfl, if_neg (fun h' => by omega)]
theorem duties_bar_late (r : ℕ) (h : 1 ≤ r) : (ringRd (F := F) m ρ).duties (barCell c) r = ∅ := by
  dsimp only [ringRd]; rw [if_pos rfl, if_neg (by omega)]

theorem amount_bar (d : Bool) : (ringRd (F := F) m ρ).amount (barCell c) 0 d = 1 := rfl
theorem amount_own (k : Own) (r : ℕ) (d : Bool) : (ringRd (F := F) m ρ).amount (ownCell c k) r d = N := rfl

theorem expect_bar : (ringRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_own (k : Own) (r : ℕ) (h : hopOf (ownNo k) r < 15) : (ringRd (F := F) m ρ).expect (ownCell c k) r = N := by
  unfold Schedule.expect Schedule.amountOf; rw [duties_own m ρ c k r h, Finset.sum_singleton, amount_own]

theorem payload_bar (d : Bool) : (ringRd (F := F) m ρ).payload (barCell c) 0 d = barPay c d := rfl
theorem payload_send (dd : Bool) (h : ℕ) (d : Bool) : (ringRd (F := F) m ρ).payload (sendCell c dd h) (h / 4) d = sendPay m ρ c dd h := by
  dsimp only [ringRd]; rw [kindOf_own, dirOf_own, hop_send]; rfl
theorem payload_recv (dd : Bool) (h : ℕ) (d : Bool) : (ringRd (F := F) m ρ).payload (recvCell c dd h) (h / 4) d = recvPay m ρ c dd h := by
  dsimp only [ringRd]; rw [kindOf_own, if_pos rfl, dirOf_own, hop_recv]

theorem rest_bar : bigSep ((ringRd (F := F) m ρ).duties (barCell c) 0 \ ∅) (fun d => (ringRd (F := F) m ρ).payload (barCell c) 0 d)
    = iprop(barPay c true ∗ barPay c false) := by
  rw [Finset.sdiff_empty, duties_bar, bigSep_univ_eq_bigSepL [true, false] (by decide) (by decide), bigSepL_cons_cons, bigSepL_singleton,
    payload_bar, payload_bar]
  rfl
theorem rest_send (dd : Bool) (h : ℕ) (hh : h < 15) :
    bigSep ((ringRd (F := F) m ρ).duties (sendCell c dd h) (h / 4) \ ∅) (fun d => (ringRd (F := F) m ρ).payload (sendCell c dd h) (h / 4) d)
      = sendPay m ρ c dd h := by
  rw [Finset.sdiff_empty, duties_own m ρ c _ _ (by rw [hop_send]; exact hh), bigSep_singleton, payload_send]
theorem rest_recv (dd : Bool) (h : ℕ) (hh : h < 15) :
    bigSep ((ringRd (F := F) m ρ).duties (recvCell c dd h) (h / 4) \ ∅) (fun d => (ringRd (F := F) m ρ).payload (recvCell c dd h) (h / 4) d)
      = recvPay m ρ c dd h := by
  rw [Finset.sdiff_empty, duties_own m ρ c _ _ (by rw [hop_recv]; exact hh), bigSep_singleton, payload_recv]

end Sched

/-! ## What each core owes, and the order of waiting -/

theorem Ico_first {a b : ℕ} (h : a < b) : Finset.Ico a b = insert a (Finset.Ico (a + 1) b) := by
  ext x; simp only [Finset.mem_Ico, Finset.mem_insert]; omega
theorem first_notMem (a b : ℕ) : a ∉ Finset.Ico (a + 1) b := by simp only [Finset.mem_Ico]; omega

/-- From hop `h` on, device `c` owes its neighbours' landing cells the credit of the copies it has yet to make; a
    hop's credit is tallied under the hop's number. -/
def owed (h : ℕ) (c : Dev nD) : CellTallies nD τ sig ℕ :=
  ∑ i ∈ Finset.Ico h 15, (tallyAt (recvCell (step false c) false i) i N + tallyAt (recvCell (step true c) true i) i N)
def owedBar (c : Dev nD) : CellTallies nD τ sig ℕ := owed 0 c + tallyAt (barCell (nxt c)) 0 1
def owedAll (c : Dev nD) : CellTallies nD τ sig ℕ := owedBar c + tallyAt (barCell (prv c)) 0 1

theorem owed_succ (h : ℕ) (hh : h < 15) (c : Dev nD) :
    owed h c = (owed (h + 1) c + tallyAt (recvCell (step false c) false h) h N) + tallyAt (recvCell (step true c) true h) h N := by
  unfold owed
  rw [Ico_first hh, Finset.sum_insert (first_notMem _ _), add_comm, add_assoc]
theorem owed_end (c : Dev nD) : owed 15 c = 0 := by
  unfold owed; rw [Finset.Ico_self, Finset.sum_empty]

def L (g : GSem nD τ sig) : Finset ℕ := if g.1.2 = .tc then Finset.range 16 else ∅
/-- Barrier cells at 1, the landing of hop `i` at `2 + i`, everything else at 0. -/
def lv (g : GSem nD τ sig) (i : ℕ) : ℕ := match g.2 with
  | .reg _ => 1
  | .dma q => if 6 ≤ q.val ∧ kindOf q.val = true then 2 + i else 0

theorem L_of_ne (g : GSem nD τ sig) (h : g.1.2 ≠ .tc) : L g = ∅ := if_neg h
theorem mem_L (c : Dev nD) (sm : SemLoc sig) {i : ℕ} (h : i < 16) : i ∈ L ((c : Thread nD τ), sm) := by
  unfold L; rw [if_pos rfl]; exact Finset.mem_range.mpr h

theorem lv_recv (c : Dev nD) (dd : Bool) (h i : ℕ) : lv (recvCell c dd h) i = 2 + i := by
  dsimp only [lv]; rw [if_pos ⟨ownNo_ge _, kindOf_own _⟩]
theorem lv_send (c : Dev nD) (dd : Bool) (h i : ℕ) : lv (sendCell c dd h) i = 0 := by
  dsimp only [lv]; rw [if_neg (fun h' => by rw [kindOf_own] at h'; exact Bool.false_ne_true h'.2)]

theorem tally_pos {g g' : GSem nD τ sig} {i j k : ℕ} (h : 0 < (tallyAt g i k : CellTallies nD τ sig ℕ) g' j) : g' = g ∧ j = i := by
  rw [tallyAt_apply] at h
  by_contra hn
  rw [if_neg hn] at h
  exact Nat.lt_irrefl 0 h

theorem owed_pos {h : ℕ} {c : Dev nD} {g : GSem nD τ sig} {u : ℕ} (hp : 0 < owed h c g u) :
    h ≤ u ∧ u < 15 ∧ ∃ dd, g = recvCell (step dd c) dd u := by
  unfold owed at hp
  rw [Finset.sum_apply, Finsupp.finset_sum_apply] at hp
  obtain ⟨i, hi, hpi⟩ := Finset.exists_ne_zero_of_sum_ne_zero (Nat.pos_iff_ne_zero.mp hp)
  rw [Finset.mem_Ico] at hi
  rw [Pi.add_apply, Finsupp.add_apply] at hpi
  rcases Nat.eq_zero_or_pos ((tallyAt (recvCell (step false c) false i) i N : CellTallies nD τ sig ℕ) g u) with h0 | h0
  · rw [h0, zero_add] at hpi
    obtain ⟨rfl, rfl⟩ := tally_pos (Nat.pos_of_ne_zero hpi)
    exact ⟨hi.1, hi.2, true, rfl⟩
  · obtain ⟨rfl, rfl⟩ := tally_pos h0
    exact ⟨hi.1, hi.2, false, rfl⟩

theorem owedAll_pos {c : Dev nD} {g : GSem nD τ sig} {u : ℕ} (hp : 0 < owedAll c g u) :
    (u < 15 ∧ ∃ dd, g = recvCell (step dd c) dd u) ∨ (u = 0 ∧ ∃ dd, g = barCell (step dd c)) := by
  unfold owedAll owedBar at hp
  rw [Pi.add_apply, Finsupp.add_apply, Pi.add_apply, Finsupp.add_apply] at hp
  rcases Nat.eq_zero_or_pos (owed 0 c g u) with h0 | h0
  · rw [h0, zero_add] at hp
    rcases Nat.eq_zero_or_pos ((tallyAt (barCell (nxt c)) 0 1 : CellTallies nD τ sig ℕ) g u) with h1 | h1
    · rw [h1, zero_add] at hp
      obtain ⟨rfl, rfl⟩ := tally_pos hp
      exact .inr ⟨rfl, false, rfl⟩
    · obtain ⟨rfl, rfl⟩ := tally_pos h1
      exact .inr ⟨rfl, true, rfl⟩
  · obtain ⟨-, h2, h3⟩ := owed_pos h0
    exact .inl ⟨h2, h3⟩

/-- While it owes only the copies from hop `h` on, a device may wait for anything below their level. -/
theorem mayWait_hop (c : Dev nD) (sm : SemLoc sig) (i h : ℕ) (hi : i < 16) (hl : lv ((c : Thread nD τ), sm) i < 2 + h) :
    (levAts L lv : sProp 𝕄) ⊢ MayWait (c : Thread nD τ) sm i (owed h c) :=
  MayOwe.of_cut (L := L) (lev := lv) (1 + h) (fun p hp => by rw [Finset.mem_singleton.mp hp]; exact mem_L c sm hi)
    (fun g u hg => by obtain ⟨-, h2, dd, rfl⟩ := owed_pos hg; exact mem_L _ _ (by omega))
    (fun p hp => by rw [Finset.mem_singleton.mp hp]; dsimp only; omega)
    (fun g u hg => by obtain ⟨h1, h2, dd, rfl⟩ := owed_pos hg; rw [lv_recv]; omega)

/-- The staging cells are below everything a device owes at launch. -/
theorem mayWait_stage (c : Dev nD) (q : DmaSem sig) (hq : q.val < 6) (O : CellTallies nD τ sig ℕ) (hO : O = owedAll c ∨ O = 0) :
    (levAts L lv : sProp 𝕄) ⊢ MayWait (c : Thread nD τ) (.dma q) 0 O := by
  rcases hO with rfl | rfl
  · refine MayOwe.of_cut (L := L) (lev := lv) 0 (fun p hp => by rw [Finset.mem_singleton.mp hp]; exact mem_L c _ (show 0 < 16 by decide))
      (fun g u hg => by
        rcases owedAll_pos hg with ⟨h2, dd, rfl⟩ | ⟨rfl, dd, rfl⟩
        · exact mem_L _ _ (by omega)
        · exact mem_L _ _ (by decide))
      (fun p hp => by rw [Finset.mem_singleton.mp hp]; dsimp only [lv]; rw [if_neg (fun h => by omega)])
      (fun g u hg => by
        rcases owedAll_pos hg with ⟨h2, dd, rfl⟩ | ⟨rfl, dd, rfl⟩
        · rw [lv_recv]; omega
        · exact Nat.one_pos)
  · rw [MayWait_zero]; iintro -; iempintro

end Cert.MoeRing
-- ==== Proof.Steps.lean ====
/-
# One effect of the body at a time

The rules for the body's transfers, waits and loads, at a hop given by its number.
-/
module

public import proofs.«01_k».proof.Proof.Proto

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ AllU ℕ

variable (m : (ℓ : Loc nD τ sig) → Buf (Elt F) ℓ) (ρ : Dev nD → PrngReg)

abbrev 𝒱₀ : Variants := Variants.none

/-! ## Shares of a memref -/

/-- A memref owned outright is its two halves, -/
theorem owns_halve (c : Thread nD τ) {sp : Space} {sh : Shape} {e : EltTy} (M : Memref sig c.2.kind sp sh e) (X : sh.Idx → Elt F e) :
    (owns c M fullShare X : sProp 𝕄) ⊢ iprop(owns c M fullShare.left X ∗ owns c M fullShare.right X) := by
  unfold owns
  iintro ⟨%f, %hf, H⟩
  ihave H' := ((pointsTo_share (PosShare.mem_left_op_right fullShare)).1) $$ H
  icases H' with ⟨H1, H2⟩
  isplitl [H1]
  · iexists f; isplitr; · (ipureintro; exact hf)
    iexact H1
  · iexists f; isplitr; · (ipureintro; exact hf)
    iexact H2

/-- and the halves are the whole. -/
theorem owns_rejoin (c : Thread nD τ) {sp : Space} {sh : Shape} {e : EltTy} (M : Memref sig c.2.kind sp sh e) (X : sh.Idx → Elt F e) :
    iprop(owns c M fullShare.left X ∗ owns c M fullShare.right X) ⊢ (owns c M fullShare X : sProp 𝕄) := by
  unfold owns
  iintro ⟨⟨%f, %hf, H1⟩, ⟨%g, %hg, H2⟩⟩
  ihave %hag := (pointsTo_agree (ℓ := M.view.loc c) (I := M.view.set) (J := M.view.set) (f := f) (g := g)) $$ [H1 H2]
  · isplitl [H1]; · iexact H1
    iexact H2
  have e : (M.view.loc c ↦[M.view.set]{fullShare.right} g : sProp 𝕄) = M.view.loc c ↦[M.view.set]{fullShare.right} f :=
    pointsTo_congr fun i hi => ((hag i (Finset.mem_inter.mpr ⟨hi, hi⟩)).1).symm
  ihave H2 := (Entails.of_eq e) $$ H2
  iexists f
  isplitr; · (ipureintro; exact hf)
  iapply ((pointsTo_share (PosShare.mem_left_op_right fullShare)).2)
  isplitl [H1] <;> iassumption

/-! ## The cells' invariants -/

/-- A ring cell: a device, and its barrier cell or one of its own. -/
abbrev Cx : Type := Option Own
abbrev csem : Cx → SemLoc sig
  | none => .reg barS
  | some k => osem k
abbrev kcell (ck : Dev nD × Cx) : GSem nD τ sig := ((ck.1 : Thread nD τ), csem ck.2)

variable (K : Dev nD × Cx → ℕ)

/-- All the cells' invariants, under their names. -/
def recs : sProp 𝕄 := bigSep Finset.univ fun ck : Dev nD × Cx => cellInv ER (ringRd m ρ) (K ck) (kcell ck)

instance recs_persistent : BI.Persistent (recs m ρ K) := by unfold recs; infer_instance

theorem inv_at (c : Dev nD) (x : Cx) : recs m ρ K ⊢ cellInv ER (ringRd m ρ) (K (c, x)) (kcell (c, x)) := by
  unfold recs; exact bigSep_elim (Finset.mem_univ (c, x))

/-! ## Copies -/

/-- Leave to write, opened. -/
theorem free_def (dd : Bool) (d : Dev nD) (j : ℕ) : free (F := F) dd d j
    = iprop((∃ v, owns (d : Thread nD τ) (slotM dd (j + 1)) fullShare v) ∗ reached ER (recvCell d dd j) (j / 4)) := rfl

/-- The copy of hop `h`: half the source's share leaves with it, and so do the leave to write and what the sender hands over. -/
theorem wp_copy (dd : Bool) (h : ℕ) (hh : h < 15) (c n : Dev nD) (hn : n = step dd c)
    {src dst : Memref sig .tc .vmem S256x512 .bf16} (hs : src = srcM dd h) (hd : dst = slotM dd (h + 1))
    {sS sR : DmaSem sig} (h1 : SemLoc.dma sS = osem (sendK dd h)) (h2 : SemLoc.dma sR = osem (recvK dd h))
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α}
    (O : CellTallies nD τ sig ℕ) (Wt : Waits sig ℕ) :
    iprop(recs m ρ K
        ∗ owns (c : Thread nD τ) (srcM dd h) fullShare (sq (blk m ρ dd h c)) ∗ free dd (step dd c) h
        ∗ (bigSep (Finset.Ico (B h) (B (h + 1))) fun j => free (F := F) (!dd) c j)
        ∗ owes (c : Thread nD τ) (O + tallyAt (recvCell (step dd c) dd h) h N) Wt
        ∗ dutyTok ER (sendCell c dd h) (h / 4) false ∗ reached ER (sendCell c dd h) (h / 4)
        ∗ dutyTok ER (recvCell (step dd c) dd h) (h / 4) false)
      ⊢ iprop(((owns (c : Thread nD τ) (srcM dd h) fullShare.right (sq (blk m ρ dd h c)) ∗ cred (tallyAt (sendCell c dd h) 0 N) ∗ owes (c : Thread nD τ) O Wt)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn hs hd
  obtain rfl := SemLoc.dma.inj h1
  obtain rfl := SemLoc.dma.inj h2
  rw [free_def dd (step dd c) h]
  iintro ⟨#HR, Hsrc, ⟨⟨%v, Hdst⟩, #Hr2⟩, Hcarry, HO, Ht1, #Hr1, Ht2⟩ Hk
  ihave Hsrc := (owns_halve (c : Thread nD τ) (srcM dd h) _) $$ Hsrc
  icases Hsrc with ⟨Hl, Hr⟩
  unfold owns
  icases Hl with ⟨%fs, %hfs, Hl⟩
  icases Hdst with ⟨%fd, -, Hdst⟩
  iapply (Rounds.wp_send_pointsTo_with 𝒱₀ ER (ringRd m ρ) (c : Thread nD τ) none (κ₁ := K (c, some (sendK dd h)))
    (κ₂ := K (step dd c, some (recvK dd h))) (r₁ := h / 4) (r₂ := h / 4) (d₁ := false) (d₂ := false) (fd := fd)
    (F := bigSep (Finset.Ico (B h) (B (h + 1))) fun j => free (F := F) (!dd) c j)
    (by rw [duties_own m ρ c (sendK dd h) _ (by rw [hop_send]; exact hh)]; exact Finset.mem_singleton_self _)
    (by rw [duties_own m ρ (step dd c) (recvK dd h) _ (by rw [hop_recv]; exact hh)]; exact Finset.mem_singleton_self _)
    h 0 N (amount_slot dd (h + 1) (recvK dd h)) (amount_own m ρ c (sendK dd h) _ false) (amount_own m ρ (step dd c) (recvK dd h) _ false)
    O rfl (W := Wt)
    (by
      rw [payload_send]; unfold sendPay owns
      iintro H; iexists fs; isplitr; · (ipureintro; exact hfs)
      iexact H)
    (by
      rw [payload_recv]; unfold recvPay owns
      rw [step_not_step, blk_to]
      iintro ⟨H, HF⟩
      isplitl [H]
      · iexists _
        isplitr; swap; · iexact H
        ipureintro
        rw [View.read_write_univ]; exact hfs
      · iexact HF)) $$ [Hl Hdst Hcarry HO Ht1 Ht2]
  · isplitr; · iapply (inv_at m ρ K c (some (sendK dd h))); iexact HR
    isplitr; · iapply (inv_at m ρ K (step dd c) (some (recvK dd h))); iexact HR
    isplitl [Hl]; · iexact Hl
    isplitl [Hdst Hcarry]
    · isplitl [Hdst] <;> iassumption
    isplitl [HO]; · iexact HO
    isplitl [Ht1]; · iexact Ht1
    isplitr; · iexact Hr1
    isplitl [Ht2]; · iexact Ht2
    iexact Hr2
  iintro ⟨Hc, HO⟩
  iapply Hk
  isplitl [Hr]; · iexact Hr
  isplitl [Hc] <;> iassumption

/-! ## Waits -/

/-- The wait for the departure of hop `h`: the other half of the source back. -/
theorem wp_departed (dd : Bool) (h : ℕ) (hh : h < 15) (c : Dev nD) {sS : DmaSem sig} (h1 : SemLoc.dma sS = osem (sendK dd h))
    {a b : Memref sig .tc .vmem S256x512 .bf16} (hb : b.view.dmaCredit = N) {ha' : a.view.WordExact} {hb' : b.view.WordExact}
    {α : Type} {Q : α → sProp 𝕄} {k : PUnit → Prog (TpuEff nD τ sig (Elt F) Λ₀ .tc) α} (Wt : Waits sig ℕ) :
    iprop(recs m ρ K ∗ levAts L lv ∗ owns (c : Thread nD τ) (srcM dd h) fullShare.right (sq (blk m ρ dd h c))
        ∗ cred (tallyAt (sendCell c dd h) 0 N) ∗ owes (c : Thread nD τ) (owed (h + 1) c) Wt
        ∗ atPos ER (sendCell c dd h) (h / 4) ∅ 0)
      ⊢ iprop(((owns (c : Thread nD τ) (srcM dd h) fullShare (sq (blk m ρ dd h c)) ∗ owes (c : Thread nD τ) (owed (h + 1) c) (insert (osem (sendK dd h), 0) Wt)
              ∗ atPos ER (sendCell c dd h) (h / 4 + 1) ∅ 0 ∗ reached ER (sendCell c dd h) (h / 4 + 1))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS a b ha' hb') k) Q) := by
  obtain rfl := SemLoc.dma.inj h1
  iintro ⟨#HR, #Hlev, Hr, Hc, HO, Hat⟩ Hk
  iapply (Rounds.wp_wait_rest_token 𝒱₀ ER (ringRd m ρ) (c : Thread nD τ) none (κ := K (c, some (sendK dd h)))
      (wpE_waitDma2_eq 𝒱₀ (c : Thread nD τ) none Set.univ) (Set.mem_univ _) 0 (O := owed (h + 1) c) (W := Wt) (R := h / 4) (m := 0) (T := ∅)
      (by rw [Nat.zero_add, expect_own m ρ c (sendK dd h) _ (by rw [hop_send]; exact hh)]; exact hb)) $$ [Hc HO Hat]
  · isplitr; · iapply (inv_at m ρ K c (some (sendK dd h))); iexact HR
    isplitl [Hc]; · rw [hb]; iexact Hc
    isplitl [HO]; · iexact HO
    isplitr; · iapply (mayWait_hop c _ 0 (h + 1) (by decide) (by rw [lv_send]; omega)); iexact Hlev
    iexact Hat
  iintro ⟨HO, Hat, Hre, Hpay⟩
  ihave Hp := (Entails.of_eq (rest_send m ρ c dd h hh)) $$ Hpay
  unfold sendPay
  iapply Hk
  isplitl [Hp Hr]
  · iapply (owns_rejoin (c : Thread nD τ) (srcM dd h) _); isplitl [Hp] <;> iassumption
  isplitl [HO]; · iexact HO
  isplitl [Hat] <;> iassumption

/-- The wait for the landing of hop `h`: the next slot with its block, and leave to do later writes of the other direction. -/
theorem wp_landed (dd : Bool) (h : ℕ) (hh : h < 15) (c : Dev nD) {sR : DmaSem sig} (h1 : SemLoc.dma sR = osem (recvK dd h))
    {a b : Memref sig .tc .vmem S256x512 .bf16} (hb : b.view.dmaCredit = N) {ha' : a.view.WordExact} {hb' : b.view.WordExact}
    {α : Type} {Q : α → sProp 𝕄} {k : PUnit → Prog (TpuEff nD τ sig (Elt F) Λ₀ .tc) α} (Wt : Waits sig ℕ) :
    iprop(recs m ρ K ∗ levAts L lv ∗ cred (tallyAt (recvCell c dd h) h N) ∗ owes (c : Thread nD τ) (owed (h + 1) c) Wt
        ∗ atPos ER (recvCell c dd h) (h / 4) ∅ 0)
      ⊢ iprop(((recvPay m ρ c dd h ∗ owes (c : Thread nD τ) (owed (h + 1) c) (insert (osem (recvK dd h), h) Wt)
              ∗ atPos ER (recvCell c dd h) (h / 4 + 1) ∅ 0 ∗ reached ER (recvCell c dd h) (h / 4 + 1))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR a b ha' hb') k) Q) := by
  obtain rfl := SemLoc.dma.inj h1
  iintro ⟨#HR, #Hlev, Hc, HO, Hat⟩ Hk
  iapply (Rounds.wp_wait_rest_token 𝒱₀ ER (ringRd m ρ) (c : Thread nD τ) none (κ := K (c, some (recvK dd h)))
      (wpE_waitDma2_eq 𝒱₀ (c : Thread nD τ) none Set.univ) (Set.mem_univ _) h (O := owed (h + 1) c) (W := Wt) (R := h / 4) (m := 0) (T := ∅)
      (by rw [Nat.zero_add, expect_own m ρ c (recvK dd h) _ (by rw [hop_recv]; exact hh)]; exact hb)) $$ [Hc HO Hat]
  · isplitr; · iapply (inv_at m ρ K c (some (recvK dd h))); iexact HR
    isplitl [Hc]; · rw [hb]; iexact Hc
    isplitl [HO]; · iexact HO
    isplitr; · iapply (mayWait_hop c _ h (h + 1) (by omega) (by rw [lv_recv]; omega)); iexact Hlev
    iexact Hat
  iintro ⟨HO, Hat, Hre, Hpay⟩
  ihave Hp := (Entails.of_eq (rest_recv m ρ c dd h hh)) $$ Hpay
  iapply Hk
  isplitl [Hp]; · iexact Hp
  isplitl [HO]; · iexact HO
  isplitl [Hat] <;> iassumption

/-! ## Loads -/

theorem slot_set (dd : Bool) (n : ℕ) : (slotM dd n).view.set = (ringM dd).view.setOn (slotR (slot n)).toLoadRect.set :=
  (View.set_reshape _ _).trans (View.set_slice _ _)
theorem row_set (dd : Bool) : (rowM dd).view.set = stageM.view.setOn (rowR (rowOf dd)).toLoadRect.set :=
  (View.set_reshape _ _).trans (View.set_slice _ _)

/-- A load of a slot yields the block it holds, -/
theorem wp_load_slot (dd : Bool) (n : ℕ) (c : Dev nD) (w : Blk F) (q : PosShare TreeShare)
    {M : Memref sig .tc .vmem S4x256x512 .bf16} (hM : M = ringM dd) {o : Fin 3 → ℕ} (ho : o = ![(slot n).val, 0, 0])
    {inb : ∀ a, o a + S1x256x512.size a ≤ S4x256x512.size a}
    {hl : M.view.LoadsAt (Rect.unit (s := S4x256x512) o S1x256x512.size inb).toLoadRect}
    {α : Type} {Q : α → sProp 𝕄} {k : Blk F → Prog (TpuEff nD τ sig (Elt F) Λ₀ .tc) α} :
    owns (c : Thread nD τ) (slotM dd n) q (sq w)
      ⊢ iprop((owns (c : Thread nD τ) (slotM dd n) q (sq w)
            -∗ wp frame (wpE (defs₀ (F := F)) 𝒱₀ (c : Thread nD τ) none) Set.univ (k w) Q)
          -∗ wp frame (wpE (defs₀ (F := F)) 𝒱₀ (c : Thread nD τ) none) Set.univ
              (.op (.load M (Rect.unit (s := S4x256x512) o S1x256x512.size inb).toLoadRect hl) k) Q) := by
  subst hM ho
  unfold owns
  iintro ⟨%f, %hf, H⟩ Hk
  have hw : (ringM dd).view.readAt (Elt F) (slotR (slot n)).toLoadRect f = w := sq_inj hf
  ihave H := (show ((slotM dd n).view.loc (c : Thread nD τ) ↦[(slotM dd n).view.set]{q} f : sProp 𝕄)
    ⊢ ((ringM dd).view.loc (c : Thread nD τ) ↦[(slotM dd n).view.set]{q} f) from .rfl) $$ H
  iapply (wp_load 𝒱₀ (c : Thread nD τ) none Set.univ (m := ringM dd) (S := (slotM dd n).view.set) (q := q) (f := f) (slot_set dd n).symm.subset) $$ H
  iintro H
  rw [hw]
  iapply Hk
  iexists f
  isplitr; · (ipureintro; exact hf)
  iexact H

/-- and a load of a staged row the row. -/
theorem wp_load_row (dd : Bool) (c : Dev nD) (w : Blk F) (q : PosShare TreeShare)
    {M : Memref sig .tc .vmem S2x256x512 .bf16} (hM : M = stageM) {o : Fin 3 → ℕ} (ho : o = ![(rowOf dd).val, 0, 0])
    {inb : ∀ a, o a + S1x256x512.size a ≤ S2x256x512.size a}
    {hl : M.view.LoadsAt (Rect.unit (s := S2x256x512) o S1x256x512.size inb).toLoadRect}
    {α : Type} {Q : α → sProp 𝕄} {k : Blk F → Prog (TpuEff nD τ sig (Elt F) Λ₀ .tc) α} :
    owns (c : Thread nD τ) (rowM dd) q (sq w)
      ⊢ iprop((owns (c : Thread nD τ) (rowM dd) q (sq w)
            -∗ wp frame (wpE (defs₀ (F := F)) 𝒱₀ (c : Thread nD τ) none) Set.univ (k w) Q)
          -∗ wp frame (wpE (defs₀ (F := F)) 𝒱₀ (c : Thread nD τ) none) Set.univ
              (.op (.load M (Rect.unit (s := S2x256x512) o S1x256x512.size inb).toLoadRect hl) k) Q) := by
  subst hM ho
  unfold owns
  iintro ⟨%f, %hf, H⟩ Hk
  have hw : stageM.view.readAt (Elt F) (rowR (rowOf dd)).toLoadRect f = w := sq_inj hf
  ihave H := (show ((rowM dd).view.loc (c : Thread nD τ) ↦[(rowM dd).view.set]{q} f : sProp 𝕄)
    ⊢ (stageM.view.loc (c : Thread nD τ) ↦[(rowM dd).view.set]{q} f) from .rfl) $$ H
  iapply (wp_load 𝒱₀ (c : Thread nD τ) none Set.univ (m := stageM) (S := (rowM dd).view.set) (q := q) (f := f) (row_set dd).symm.subset) $$ H
  iintro H
  rw [hw]
  iapply Hk
  iexists f
  isplitr; · (ipureintro; exact hf)
  iexact H

end Cert.MoeRing
-- ==== Proof.Hops.lean ====
/-
# One hop

What a device holds when hop `n` begins, and that a hop's two copies, two loads and four waits lead from hop `n` to
hop `n + 1`.
-/
module

public import proofs.«01_k».proof.Proof.Steps

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ AllU ℕ

variable (m : (ℓ : Loc nD τ sig) → Buf (Elt F) ℓ) (ρ : Dev nD → PrngReg)

variable (K : Dev nD × Cx → ℕ)

/-! ## What a device holds between hops -/

/-- The rounds of a cell that are over when hop `n` begins. -/
def pos (n : ℕ) (k : Own) : ℕ := (n + 3 - first k.1 k.2.2.val) / 4

theorem pos_send (dd : Bool) (n : ℕ) : pos n (sendK dd n) = n / 4 := by
  show (n + 3 - n % 4) / 4 = n / 4; omega
theorem pos_send_succ (dd : Bool) (n : ℕ) : pos (n + 1) (sendK dd n) = n / 4 + 1 := by
  show (n + 1 + 3 - n % 4) / 4 = n / 4 + 1; omega
theorem pos_recv (dd : Bool) (n : ℕ) : pos n (recvK dd n) = n / 4 := by
  show (n + 3 - ((n + 1) % 4 + 3) % 4) / 4 = n / 4; omega
theorem pos_recv_succ (dd : Bool) (n : ℕ) : pos (n + 1) (recvK dd n) = n / 4 + 1 := by
  show (n + 1 + 3 - ((n + 1) % 4 + 3) % 4) / 4 = n / 4 + 1; omega

/-- The cells hop `n` uses. -/
def used (n : ℕ) : Finset Own := {sendK true n, recvK true n, sendK false n, recvK false n}

theorem first_lt (a : Bool) (s : Fin 4) : first a s.val < 4 := by revert a s; decide

/-- A hop moves no cell but those it uses. -/
theorem pos_unused (n : ℕ) (k : Own) (hk : k ∉ used n) : pos (n + 1) k = pos n k := by
  have hf : first k.1 k.2.2.val ≠ n % 4 := by
    intro h
    apply hk
    obtain ⟨a, dd, s⟩ := k
    have hs := s.isLt
    have hslot : s = (if a then slot (n + 1) else slot n) := by
      apply Fin.ext
      cases a
      · exact h
      · show s.val = (n + 1) % 4
        have h' : (s.val + 3) % 4 = n % 4 := h
        omega
    subst hslot
    unfold used
    cases a <;> cases dd <;> simp [sendK, recvK]
  have := first_lt k.1 k.2.2
  unfold pos; omega

/-- A device's position at its cell `k`, `r` rounds over. -/
abbrev at_ (c : Dev nD) (k : Own) (r : ℕ) : sProp 𝕄 := iprop(atPos ER (ownCell c k) r ∅ 0 ∗ reached ER (ownCell c k) r)
def posns (n : ℕ) (c : Dev nD) : sProp 𝕄 := bigSep Finset.univ fun k : Own => at_ (F := F) c k (pos n k)

theorem bigSep_used (n : ℕ) (Φ : Own → sProp 𝕄) :
    bigSep (used n) Φ = iprop(Φ (sendK true n) ∗ Φ (recvK true n) ∗ Φ (sendK false n) ∗ Φ (recvK false n)) := by
  unfold used
  rw [bigSep_insert (by simp [sendK, recvK]), bigSep_insert (by simp [sendK, recvK]), bigSep_insert (by simp [sendK, recvK]), bigSep_singleton]
  rfl

/-- The positions at hop `n`: those of the cells it uses, and the way back once these have moved one round on. -/
theorem posns_use (n : ℕ) (c : Dev nD) :
    posns (F := F) n c ⊢ iprop((at_ c (sendK true n) (n / 4) ∗ at_ c (recvK true n) (n / 4) ∗ at_ c (sendK false n) (n / 4) ∗ at_ c (recvK false n) (n / 4))
      ∗ ((at_ c (sendK true n) (n / 4 + 1) ∗ at_ c (recvK true n) (n / 4 + 1) ∗ at_ c (sendK false n) (n / 4 + 1) ∗ at_ c (recvK false n) (n / 4 + 1))
          -∗ posns (n + 1) c)) := by
  unfold posns
  have e (i : ℕ) : bigSep Finset.univ (fun k : Own => at_ (F := F) c k (pos i k))
      = iprop(bigSep (used n) (fun k => at_ c k (pos i k)) ∗ bigSep (Finset.univ \ used n) (fun k => at_ c k (pos i k))) :=
    bigSep_sdiff_split (Finset.subset_univ (used n))
  rw [e n, e (n + 1), bigSep_used, bigSep_used, pos_send, pos_send, pos_recv, pos_recv, pos_send_succ, pos_send_succ, pos_recv_succ, pos_recv_succ,
    bigSep_congr (s := Finset.univ \ used n) (Φ := fun k => at_ c k (pos (n + 1) k)) (Ψ := fun k => at_ c k (pos n k))
      fun k hk => by rw [pos_unused n k (Finset.mem_sdiff.mp hk).2]]
  iintro ⟨H1, H2⟩
  isplitl [H1]; · iexact H1
  iintro H1
  isplitl [H1] <;> iassumption

/-- What direction `dd` of hop `i` takes: the tokens of its departure and landing, and the credit of the landing awaited. -/
abbrev fuel (c : Dev nD) (dd : Bool) (i : ℕ) : sProp 𝕄 :=
  iprop(dutyTok ER (sendCell c dd i) (i / 4) false ∗ dutyTok ER (recvCell (step dd c) dd i) (i / 4) false ∗ cred (tallyAt (recvCell c dd i) i N))
abbrev todo (n : ℕ) (c : Dev nD) : sProp 𝕄 := bigSep (Finset.Ico n 15) fun i => iprop(fuel (F := F) c true i ∗ fuel c false i)

/-- Leave to do the writes `a ≤ j < b`, of each direction, into the neighbours; and into the device itself, not yet given away. -/
abbrev perms (a b : ℕ) (c : Dev nD) : sProp 𝕄 :=
  iprop((bigSep (Finset.Ico a b) fun j => free (F := F) true (nxt c) j) ∗ bigSep (Finset.Ico a b) fun j => free (F := F) false (prv c) j)
abbrev mine (a b : ℕ) (c : Dev nD) : sProp 𝕄 :=
  iprop((bigSep (Finset.Ico a b) fun j => free (F := F) true c j) ∗ bigSep (Finset.Ico a b) fun j => free (F := F) false c j)

/-- The block in hand at hop `n`, at share `q`, and that its slot's landing cell has come to the round of the slot's next write. -/
abbrev cur (q : PosShare TreeShare) (n : ℕ) (c : Dev nD) (dd : Bool) : sProp 𝕄 :=
  iprop(owns (c : Thread nD τ) (srcM dd n) q (sq (blk m ρ dd n c)) ∗ reached ER (recvCell c dd (n + 3)) ((n + 3) / 4))
/-- The staged rows, no longer needed after hop 0. -/
def rows (c : Dev nD) : ℕ → sProp 𝕄
  | 0 => iprop(emp)
  | _ + 1 => iprop((∃ v, owns (c : Thread nD τ) (rowM true) fullShare v) ∗ ∃ v, owns (c : Thread nD τ) (rowM false) fullShare v)

def HopInv (n : ℕ) (c : Dev nD) : sProp 𝕄 :=
  iprop(recs m ρ K ∗ levAts L lv ∗ posns n c ∗ todo n c ∗ perms n (B n) c ∗ mine (B n) (n + 3) c ∗ cur m ρ fullShare n c true ∗ cur m ρ fullShare n c false
    ∗ rows c n ∗ ∃ Wt, owes (c : Thread nD τ) (owed n c) Wt)

/-- The positions at the cells of hop `n`, with `r` rounds of each over. -/
abbrev usedAt (n : ℕ) (c : Dev nD) (r : ℕ) : sProp 𝕄 :=
  iprop(at_ (F := F) c (sendK true n) r ∗ at_ (F := F) c (recvK true n) r ∗ at_ (F := F) c (sendK false n) r ∗ at_ (F := F) c (recvK false n) r)

/-- Hop `n` under way: both copies made, half of each source with its copy. -/
def Mid (n : ℕ) (c : Dev nD) : sProp 𝕄 :=
  iprop(recs m ρ K ∗ levAts L lv ∗ (usedAt n c (n / 4) ∗ (usedAt n c (n / 4 + 1) -∗ posns n.succ c)) ∗ todo (n + 1) c
    ∗ (cred (tallyAt (sendCell c true n) 0 N) ∗ cred (tallyAt (recvCell c true n) n N) ∗ cred (tallyAt (sendCell c false n) 0 N) ∗ cred (tallyAt (recvCell c false n) n N))
    ∗ perms (n + 1) (B n) c ∗ mine (B (n + 1)) (n + 3) c ∗ cur m ρ fullShare.right n c true ∗ cur m ρ fullShare.right n c false
    ∗ rows c n ∗ ∃ Wt, owes (c : Thread nD τ) (owed (n + 1) c) Wt)

theorem bigSep_Ico_first {a b : ℕ} (h : a < b) (Φ : ℕ → sProp 𝕄) :
    bigSep (Finset.Ico a b) Φ = iprop(Φ a ∗ bigSep (Finset.Ico (a + 1) b) Φ) := by
  rw [Ico_first h, bigSep_insert (first_notMem a b)]; rfl
/-- A range of numbers cut in two, -/
theorem bigSep_cut {s t u : Finset ℕ} (h : s = t ∪ u) (hd : ∀ x, x ∈ t → x ∉ u) (Φ : ℕ → sProp 𝕄) :
    bigSep s Φ = iprop(bigSep t Φ ∗ bigSep u Φ) := by
  rw [h, bigSep_union (Finset.disjoint_left.mpr fun x => hd x)]
  rfl
/-- or its last number apart. -/
theorem bigSep_Ico_last {a b : ℕ} (h : a ≤ b) (Φ : ℕ → sProp 𝕄) :
    bigSep (Finset.Ico a (b + 1)) Φ = iprop(bigSep (Finset.Ico a b) Φ ∗ Φ b) := by
  rw [bigSep_cut (t := Finset.Ico a b) (u := {b}) (by ext x; simp only [Finset.mem_union, Finset.mem_Ico, Finset.mem_singleton]; omega)
    (fun x hx => by simp only [Finset.mem_Ico, Finset.mem_singleton] at *; omega), bigSep_singleton]

theorem lt_B {n : ℕ} (h : n < 15) : n < B n := by unfold B; omega

/-- A device's freed slots at hop `n`: those it gives away at this hop, and the rest. -/
theorem frees_cut (n : ℕ) (Φ : ℕ → sProp 𝕄) :
    bigSep (Finset.Ico (B n) (n + 3)) Φ = iprop(bigSep (Finset.Ico (B n) (B (n + 1))) Φ ∗ bigSep (Finset.Ico (B (n + 1)) (n + 3)) Φ) :=
  bigSep_cut (by ext x; simp only [Finset.mem_union, Finset.mem_Ico]; unfold B; omega)
    (fun x => by simp only [Finset.mem_Ico]; omega) Φ
/-- Leave to write, after hop `n`: what was left of it, and what the hop's landings bring. -/
theorem perms_join (n : ℕ) (h : n < 15) (Φ : ℕ → sProp 𝕄) :
    bigSep (Finset.Ico (n + 1) (B (n + 1))) Φ = iprop(bigSep (Finset.Ico (n + 1) (B n)) Φ ∗ bigSep (Finset.Ico (B n) (B (n + 1))) Φ) :=
  bigSep_cut (by ext x; simp only [Finset.mem_union, Finset.mem_Ico]; unfold B; omega)
    (fun x => by simp only [Finset.mem_Ico]; omega) Φ

theorem slot_add_four (n : ℕ) : slot (n + 4) = slot n := Fin.ext (by show (n + 4) % 4 = n % 4; omega)

/-! ## The two copies -/

variable {c : Dev nD}

theorem wp_copies (n : ℕ) (hn : n < 15) (d₁ d₂ : Dev nD) (e₁ : d₁ = nxt c) (e₂ : d₂ = prv c)
    {src₁ dst₁ src₂ dst₂ : Memref sig .tc .vmem S256x512 .bf16} (hs₁ : src₁ = srcM true n) (hd₁ : dst₁ = slotM true (n + 1))
    (hs₂ : src₂ = srcM false n) (hd₂ : dst₂ = slotM false (n + 1))
    {sS₁ sR₁ sS₂ sR₂ : DmaSem sig} (hS₁ : SemLoc.dma sS₁ = osem (sendK true n)) (hR₁ : SemLoc.dma sR₁ = osem (recvK true n))
    (hS₂ : SemLoc.dma sS₂ = osem (sendK false n)) (hR₂ : SemLoc.dma sR₂ = osem (recvK false n))
    {hsc₁ : dst₁.view.ref.isScScratch = false} {hsrc₁ : src₁.view.WordExact} {hdst₁ : dst₁.view.WordExact}
    {ht₁ : DmaTarget.Typed .vmem (.dma sR₁) (.remote (Dev.tc d₁ : Thread nD τ) dst₁ (.dma sS₁) hsc₁)}
    {hsc₂ : dst₂.view.ref.isScScratch = false} {hsrc₂ : src₂.view.WordExact} {hdst₂ : dst₂.view.WordExact}
    {ht₂ : DmaTarget.Typed .vmem (.dma sR₂) (.remote (Dev.tc d₂ : Thread nD τ) dst₂ (.dma sS₂) hsc₂)}
    {α : Type} {Q : α → sProp 𝕄} {k : PUnit → Prog (TpuEff nD τ sig (Elt F) Λ₀ .tc) α} :
    HopInv m ρ K n c
      ⊢ iprop((Mid m ρ K n c -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src₁ (.remote (Dev.tc d₁ : Thread nD τ) dst₁ (.dma sS₁) hsc₁) (.dma sR₁) hsrc₁ hdst₁ ht₁)
                fun _ => .op (.enqueueDma src₂ (.remote (Dev.tc d₂ : Thread nD τ) dst₂ (.dma sS₂) hsc₂) (.dma sR₂) hsrc₂ hdst₂ ht₂) k) Q) := by
  unfold HopInv
  iintro ⟨#HR, #Hlev, Hpos, Htodo, Hperm, Hmine, ⟨Hs1, #Hr1⟩, ⟨Hs2, #Hr2⟩, Hrows, ⟨%Wt, HO⟩⟩ Hk
  ihave Htodo := (Entails.of_eq (bigSep_Ico_first hn fun i => iprop(fuel (F := F) c true i ∗ fuel c false i))) $$ Htodo
  icases Htodo with ⟨⟨⟨Ha1, Hb1, Hc1⟩, Ha2, Hb2, Hc2⟩, Htodo⟩
  ihave Hpos := (posns_use (F := F) n c) $$ Hpos
  icases Hpos with ⟨⟨⟨Hp1, #Hq1⟩, Hp2, ⟨Hp3, #Hq3⟩, Hp4⟩, Hback⟩
  icases Hperm with ⟨Hperm1, Hperm2⟩
  ihave Hperm1 := (Entails.of_eq (bigSep_Ico_first (lt_B hn) fun j => free (F := F) true (nxt c) j)) $$ Hperm1
  ihave Hperm2 := (Entails.of_eq (bigSep_Ico_first (lt_B hn) fun j => free (F := F) false (prv c) j)) $$ Hperm2
  icases Hperm1 with ⟨Hw1, Hperm1⟩
  icases Hperm2 with ⟨Hw2, Hperm2⟩
  icases Hmine with ⟨Hmine1, Hmine2⟩
  ihave Hmine1 := (Entails.of_eq (frees_cut n fun j => free (F := F) true c j)) $$ Hmine1
  ihave Hmine2 := (Entails.of_eq (frees_cut n fun j => free (F := F) false c j)) $$ Hmine2
  icases Hmine1 with ⟨Hg1, Hmine1⟩
  icases Hmine2 with ⟨Hg2, Hmine2⟩
  rw [owed_succ n hn c]
  iapply (wp_copy m ρ K true n hn c d₁ e₁ hs₁ hd₁ hS₁ hR₁ (owed (n + 1) c + tallyAt (recvCell (step false c) false n) n N) Wt)
    $$ [Hs1 Hw1 Hg2 HO Ha1 Hb1]
  · isplitr; · iexact HR
    isplitl [Hs1]; · iexact Hs1
    isplitl [Hw1]; · iexact Hw1
    isplitl [Hg2]; · iexact Hg2
    isplitl [HO]; · iexact HO
    isplitl [Ha1]; · iexact Ha1
    isplitr; · iexact Hq1
    iexact Hb1
  iintro ⟨Hs1, Hd1, HO⟩
  iapply (wp_copy m ρ K false n hn c d₂ e₂ hs₂ hd₂ hS₂ hR₂ (owed (n + 1) c) Wt) $$ [Hs2 Hw2 Hg1 HO Ha2 Hb2]
  · isplitr; · iexact HR
    isplitl [Hs2]; · iexact Hs2
    isplitl [Hw2]; · iexact Hw2
    isplitl [Hg1]; · iexact Hg1
    isplitl [HO]; · iexact HO
    isplitl [Ha2]; · iexact Ha2
    isplitr; · iexact Hq3
    iexact Hb2
  iintro ⟨Hs2, Hd2, HO⟩
  iapply Hk
  unfold Mid
  isplitr; · iexact HR
  isplitr; · iexact Hlev
  isplitl [Hp1 Hp2 Hp3 Hp4 Hback]
  · isplitl [Hp1 Hp2 Hp3 Hp4]
    · isplitl [Hp1]
      · isplitl [Hp1]; · iexact Hp1
        iexact Hq1
      isplitl [Hp2]; · iexact Hp2
      isplitl [Hp3]
      · isplitl [Hp3]; · iexact Hp3
        iexact Hq3
      iexact Hp4
    · iexact Hback
  isplitl [Htodo]; · iexact Htodo
  isplitl [Hc1 Hc2 Hd1 Hd2]
  · isplitl [Hd1]; · iexact Hd1
    isplitl [Hc1]; · iexact Hc1
    isplitl [Hd2] <;> iassumption
  isplitl [Hperm1 Hperm2]
  · isplitl [Hperm1] <;> iassumption
  isplitl [Hmine1 Hmine2]
  · isplitl [Hmine1] <;> iassumption
  isplitl [Hs1]
  · isplitl [Hs1]; · iexact Hs1
    iexact Hr1
  isplitl [Hs2]
  · isplitl [Hs2]; · iexact Hs2
    iexact Hr2
  isplitl [Hrows]; · iexact Hrows
  iexists Wt
  iexact HO

/-! ## The four waits -/

/-- What hop `n` leaves of its source: at hop 0 the staged rows, later two freed slots. -/
theorem after_hop (n : ℕ) :
    iprop(mine (F := F) (B (n + 1)) (n + 3) c ∗ rows c n ∗ cur m ρ fullShare n c true ∗ cur m ρ fullShare n c false)
      ⊢ iprop(mine (B (n + 1)) (n + 1 + 3) c ∗ rows c (n + 1)) := by
  cases n with
  | zero =>
    iintro ⟨⟨Hm1, Hm2⟩, -, ⟨H1, -⟩, ⟨H2, -⟩⟩
    rw [show Finset.Ico (B (0 + 1)) (0 + 3) = Finset.Ico (B (0 + 1)) (0 + 1 + 3) by decide]
    isplitl [Hm1 Hm2]
    · isplitl [Hm1] <;> iassumption
    rw [show rows (F := F) c (0 + 1) = iprop((∃ v, owns (c : Thread nD τ) (rowM true) fullShare v) ∗ ∃ v, owns (c : Thread nD τ) (rowM false) fullShare v) from rfl]
    isplitl [H1]
    · iexists _; iexact H1
    · iexists _; iexact H2
  | succ n =>
    iintro ⟨⟨Hm1, Hm2⟩, Hrows, ⟨H1, #Hr1⟩, ⟨H2, #Hr2⟩⟩
    have hB : B (n + 1 + 1) ≤ n + 1 + 3 := by unfold B; omega
    have e (dd : Bool) : slotM dd (n + 1 + 3 + 1) = srcM dd (n + 1) := by
      show slotM dd (n + 1 + 4) = slotM dd (n + 1)
      unfold slotM; rw [slot_add_four]
    rw [show n + 1 + 1 + 3 = n + 1 + 3 + 1 from rfl]
    isplitr [Hrows]; swap; · iexact Hrows
    isplitl [Hm1 H1]
    · rw [bigSep_Ico_last hB]
      isplitl [Hm1]; · iexact Hm1
      unfold free
      isplitl [H1]
      · iexists _; rw [e]; iexact H1
      · iexact Hr1
    · rw [bigSep_Ico_last hB]
      isplitl [Hm2]; · iexact Hm2
      unfold free
      isplitl [H2]
      · iexists _; rw [e]; iexact H2
      · iexact Hr2

theorem wp_waits (n : ℕ) (hn : n < 15)
    {sS₁ sR₁ sS₂ sR₂ : DmaSem sig} (hS₁ : SemLoc.dma sS₁ = osem (sendK true n)) (hR₁ : SemLoc.dma sR₁ = osem (recvK true n))
    (hS₂ : SemLoc.dma sS₂ = osem (sendK false n)) (hR₂ : SemLoc.dma sR₂ = osem (recvK false n))
    {a₁ a₂ a₃ a₄ b₁ b₂ b₃ b₄ : Memref sig .tc .vmem S256x512 .bf16}
    (hb₁ : b₁.view.dmaCredit = N) (hb₂ : b₂.view.dmaCredit = N) (hb₃ : b₃.view.dmaCredit = N) (hb₄ : b₄.view.dmaCredit = N)
    {g₁ : a₁.view.WordExact} {g₂ : a₂.view.WordExact} {g₃ : a₃.view.WordExact} {g₄ : a₄.view.WordExact}
    {f₁ : b₁.view.WordExact} {f₂ : b₂.view.WordExact} {f₃ : b₃.view.WordExact} {f₄ : b₄.view.WordExact}
    {α : Type} {Q : α → sProp 𝕄} {k : PUnit → Prog (TpuEff nD τ sig (Elt F) Λ₀ .tc) α} :
    Mid m ρ K n c
      ⊢ iprop((HopInv m ρ K (n + 1) c -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sS₁ a₁ b₁ g₁ f₁) fun _ => .op (.waitDma2 sR₁ a₂ b₂ g₂ f₂) fun _ =>
                .op (.waitDma2 sS₂ a₃ b₃ g₃ f₃) fun _ => .op (.waitDma2 sR₂ a₄ b₄ g₄ f₄) k) Q) := by
  unfold Mid
  iintro ⟨#HR, #Hlev, ⟨⟨⟨Hp1, -⟩, ⟨Hp2, -⟩, ⟨Hp3, -⟩, ⟨Hp4, -⟩⟩, Hback⟩, Htodo, ⟨Hd1, Hc1, Hd2, Hc2⟩, ⟨Hperm1, Hperm2⟩, Hmine, ⟨Hs1, #Hr1⟩, ⟨Hs2, #Hr2⟩, Hrows, ⟨%Wt, HO⟩⟩ Hk
  iapply (wp_departed m ρ K true n hn c hS₁ hb₁ Wt) $$ [Hs1 Hd1 HO Hp1]
  · isplitr; · iexact HR
    isplitr; · iexact Hlev
    isplitl [Hs1]; · iexact Hs1
    isplitl [Hd1]; · iexact Hd1
    isplitl [HO] <;> iassumption
  iintro ⟨Hs1, HO, Hp1, #Hq1⟩
  iapply (wp_landed m ρ K true n hn c hR₁ hb₂ _) $$ [Hc1 HO Hp2]
  · isplitr; · iexact HR
    isplitr; · iexact Hlev
    isplitl [Hc1]; · iexact Hc1
    isplitl [HO] <;> iassumption
  unfold recvPay
  iintro ⟨⟨Hn1, Hperm2'⟩, HO, Hp2, #Hq2⟩
  iapply (wp_departed m ρ K false n hn c hS₂ hb₃ _) $$ [Hs2 Hd2 HO Hp3]
  · isplitr; · iexact HR
    isplitr; · iexact Hlev
    isplitl [Hs2]; · iexact Hs2
    isplitl [Hd2]; · iexact Hd2
    isplitl [HO] <;> iassumption
  iintro ⟨Hs2, HO, Hp3, #Hq3⟩
  iapply (wp_landed m ρ K false n hn c hR₂ hb₄ _) $$ [Hc2 HO Hp4]
  · isplitr; · iexact HR
    isplitr; · iexact Hlev
    isplitl [Hc2]; · iexact Hc2
    isplitl [HO] <;> iassumption
  unfold recvPay
  iintro ⟨⟨Hn2, Hperm1'⟩, HO, Hp4, #Hq4⟩
  ihave Hperm1' := (show (bigSep (Finset.Ico (B n) (B (n + 1))) fun j => free (F := F) (!false) (step (!false) c) j : sProp 𝕄)
    ⊢ bigSep (Finset.Ico (B n) (B (n + 1))) fun j => free (F := F) true (nxt c) j from .rfl) $$ Hperm1'
  ihave Hperm2' := (show (bigSep (Finset.Ico (B n) (B (n + 1))) fun j => free (F := F) (!true) (step (!true) c) j : sProp 𝕄)
    ⊢ bigSep (Finset.Ico (B n) (B (n + 1))) fun j => free (F := F) false (prv c) j from .rfl) $$ Hperm2'
  iapply Hk
  ihave Hrest := (after_hop m ρ (c := c) n) $$ [Hmine Hrows Hs1 Hs2]
  · isplitl [Hmine]; · iexact Hmine
    isplitl [Hrows]; · iexact Hrows
    isplitl [Hs1]
    · isplitl [Hs1]; · iexact Hs1
      iexact Hr1
    · isplitl [Hs2]; · iexact Hs2
      iexact Hr2
  icases Hrest with ⟨Hmine, Hrows⟩
  unfold HopInv
  isplitr; · iexact HR
  isplitr; · iexact Hlev
  isplitl [Hback Hp1 Hp2 Hp3 Hp4]
  · iapply Hback
    isplitl [Hp1]
    · isplitl [Hp1]; · iexact Hp1
      iexact Hq1
    isplitl [Hp2]
    · isplitl [Hp2]; · iexact Hp2
      iexact Hq2
    isplitl [Hp3]
    · isplitl [Hp3]; · iexact Hp3
      iexact Hq3
    · isplitl [Hp4]; · iexact Hp4
      iexact Hq4
  isplitl [Htodo]; · iexact Htodo
  isplitl [Hperm1 Hperm1' Hperm2 Hperm2']
  · unfold perms
    rw [perms_join n hn, perms_join n hn]
    isplitl [Hperm1 Hperm1']
    · isplitl [Hperm1] <;> iassumption
    · isplitl [Hperm2] <;> iassumption
  isplitl [Hmine]; · iexact Hmine
  have ec (dd : Bool) : (reached ER (recvCell c dd n) (n / 4 + 1) : sProp 𝕄) = reached ER (recvCell c dd (n + 1 + 3)) ((n + 1 + 3) / 4) := by
    rw [show recvCell c dd (n + 1 + 3) = recvCell c dd n by unfold recvCell recvK; rw [show n + 1 + 3 + 1 = n + 1 + 4 by omega, slot_add_four],
      show (n + 1 + 3) / 4 = n / 4 + 1 by omega]
  isplitl [Hn1]
  · isplitl [Hn1]; · iexact Hn1
    rw [← ec true]; iexact Hq2
  isplitl [Hn2]
  · isplitl [Hn2]; · iexact Hn2
    rw [← ec false]; iexact Hq4
  isplitl [Hrows]; · iexact Hrows
  iexists _
  iexact HO

end Cert.MoeRing
-- ==== Proof.Buffers.lean ====
/-
# Buffers and their parts

A ring buffer is its four slots and the staging buffer its two rows; and a whole hop, loads included.
-/
module

public import proofs.«01_k».proof.Proof.Hops
public import Idealize.ShloMosaic.Lib.MemrefSat

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ AllU ℕ

variable (m : (ℓ : Loc nD τ sig) → Buf (Elt F) ℓ) (ρ : Dev nD → PrngReg)

variable (K : Dev nD × Cx → ℕ)

variable {c : Dev nD}

/-! ## The rectangles -/

/-- Two positions are apart in their first coordinate, -/
theorem slotR_disjoint (s t : Fin 4) (h : s ≠ t) : Disjoint (slotR s).set (slotR t).set :=
  Finset.disjoint_left.mpr fun i hi hj => by
    have h1 := Rect.mem_set_unit.mp hi 0
    have h2 := Rect.mem_set_unit.mp hj 0
    have e1 : (![s.val, 0, 0] : Fin 3 → ℕ) 0 = s.val := rfl
    have e2 : (![t.val, 0, 0] : Fin 3 → ℕ) 0 = t.val := rfl
    have e3 : S1x256x512.size 0 = 1 := rfl
    exact h (Fin.ext (by omega))
theorem rowR_disjoint (s t : Fin 2) (h : s ≠ t) : Disjoint (rowR s).set (rowR t).set :=
  Finset.disjoint_left.mpr fun i hi hj => by
    have h1 := Rect.mem_set_unit.mp hi 0
    have h2 := Rect.mem_set_unit.mp hj 0
    have e1 : (![s.val, 0, 0] : Fin 3 → ℕ) 0 = s.val := rfl
    have e2 : (![t.val, 0, 0] : Fin 3 → ℕ) 0 = t.val := rfl
    have e3 : S1x256x512.size 0 = 1 := rfl
    exact h (Fin.ext (by omega))

/-- and every element has one of them. -/
theorem slotR_cover : (Finset.univ : Finset (Fin 4)).biUnion (fun t => (slotR t).set) = Finset.univ := by
  ext i
  simp only [Finset.mem_biUnion, Finset.mem_univ, true_and, iff_true]
  have h0 : (i 0 : ℕ) < 4 := (i 0).isLt
  have h1 : (i 1 : ℕ) < 256 := (i 1).isLt
  have h2 : (i 2 : ℕ) < 512 := (i 2).isLt
  refine ⟨⟨i 0, h0⟩, Rect.mem_set_unit.mpr fun a => ?_⟩
  match a with
  | 0 => exact ⟨Nat.le_refl _, Nat.lt_succ_self _⟩
  | 1 => exact ⟨Nat.zero_le _, by show (i 1 : ℕ) < 0 + 256; omega⟩
  | 2 => exact ⟨Nat.zero_le _, by show (i 2 : ℕ) < 0 + 512; omega⟩
theorem rowR_cover : (Finset.univ : Finset (Fin 2)).biUnion (fun t => (rowR t).set) = Finset.univ := by
  ext i
  simp only [Finset.mem_biUnion, Finset.mem_univ, true_and, iff_true]
  have h0 : (i 0 : ℕ) < 2 := (i 0).isLt
  have h1 : (i 1 : ℕ) < 256 := (i 1).isLt
  have h2 : (i 2 : ℕ) < 512 := (i 2).isLt
  refine ⟨⟨i 0, h0⟩, Rect.mem_set_unit.mpr fun a => ?_⟩
  match a with
  | 0 => exact ⟨Nat.le_refl _, Nat.lt_succ_self _⟩
  | 1 => exact ⟨Nat.zero_le _, by show (i 1 : ℕ) < 0 + 256; omega⟩
  | 2 => exact ⟨Nat.zero_le _, by show (i 2 : ℕ) < 0 + 512; omega⟩

/-! ## A slice and its squeezed form -/

/-- Some contents of a memref, owned outright. -/
abbrev someOf (c : Dev nD) {sp : Space} {sh : Shape} {e : EltTy} (M : Memref sig .tc sp sh e) : sProp 𝕄 :=
  iprop(∃ v, owns (c : Thread nD τ) M fullShare v)

theorem squeeze_some (M : Memref sig .tc .vmem S1x256x512 .bf16) :
    (someOf (F := F) c M) ⊢ someOf c (M.squeeze S256x512 squeezes_S1x256x512_S256x512) := by
  unfold someOf owns
  iintro ⟨%v, %f, %hf, H⟩
  iexists _, f
  isplitr; · (ipureintro; rfl)
  have e : (M.squeeze S256x512 squeezes_S1x256x512_S256x512).view.set = M.view.set := View.set_reshape _ _
  rw [e]
  iexact H
theorem unsqueeze_some (M : Memref sig .tc .vmem S1x256x512 .bf16) :
    (someOf (F := F) c (M.squeeze S256x512 squeezes_S1x256x512_S256x512)) ⊢ someOf c M := by
  unfold someOf owns
  iintro ⟨%v, %f, %hf, H⟩
  iexists _, f
  isplitr; · (ipureintro; rfl)
  have e : (M.squeeze S256x512 squeezes_S1x256x512_S256x512).view.set = M.view.set := View.set_reshape _ _
  rw [e]
  iexact H

/-! ## The ring buffers -/

theorem four_slots (Φ : Fin 4 → sProp 𝕄) :
    bigSep Finset.univ Φ = bigSep (Finset.Ico 0 4) fun j => Φ (slot (j + 1)) := by
  rw [bigSep_univ_eq_bigSepL [1, 2, 3, 0] (by decide) (by decide), bigSep_eq_bigSepL_of_eq [0, 1, 2, 3] (by decide) (by decide)]
  rfl

/-- A ring buffer is its slots, numbered by the writes that fill them, -/
theorem ring_split (dd : Bool) (f : (ringM dd).view.ty.Contents (Elt F)) :
    ((ringM dd).view.loc (c : Thread nD τ) ↦[(ringM dd).view.set]{fullShare} f : sProp 𝕄)
      ⊢ bigSep (Finset.Ico 0 4) fun j => someOf c (slotM dd (j + 1)) := by
  rw [pointsTo_rects (c : Thread nD τ) (ringM dd) fullShare slotR (fun _ _ => rfl) slotR_disjoint slotR_cover f, four_slots]
  refine bigSep_mono fun j _ => ?_
  have h (v) : (owns (c : Thread nD τ) ((ringM dd).slice (slotR (slot (j + 1))) (fun _ => rfl)) fullShare v : sProp 𝕄)
      ⊢ someOf c ((ringM dd).slice (slotR (slot (j + 1))) (fun _ => rfl)) := by
    iintro H
    iexists v
    iexact H
  exact (h _).trans (squeeze_some _)

/-- and back. -/
theorem ring_join (dd : Bool) :
    (bigSep (Finset.Ico 0 4) fun j => someOf (F := F) c (slotM dd (j + 1)))
      ⊢ iprop(∃ f : (ringM dd).view.ty.Contents (Elt F), ((ringM dd).view.loc (c : Thread nD τ) ↦[(ringM dd).view.set]{fullShare} f)) := by
  have h1 : (bigSep (Finset.Ico 0 4) fun j => someOf (F := F) c (slotM dd (j + 1)))
      ⊢ bigSep Finset.univ fun s => ownsSat (c : Thread nD τ) ((ringM dd).slice (slotR s) (fun _ => rfl)) fullShare fun _ => True := by
    rw [four_slots]
    refine bigSep_mono fun j _ => ?_
    refine (unsqueeze_some ((ringM dd).slice (slotR (slot (j + 1))) (fun _ => rfl))).trans ?_
    iintro ⟨%v, H⟩
    iapply (ownsSat_intro (c : Thread nD τ) _ fullShare (X := v) trivial)
    iexact H
  refine h1.trans ((ownsSat_of_rects (c : Thread nD τ) (ringM dd) fullShare slotR (fun _ _ => rfl) slotR_disjoint slotR_cover
    (fun _ _ => True)).trans ((ownsSat_elim (c : Thread nD τ) (ringM dd) fullShare _).trans ?_))
  unfold owns
  iintro ⟨%X, -, %f, -, H⟩
  iexists f
  iexact H

/-! ## The staging buffer -/

theorem two_rows (Φ : Fin 2 → sProp 𝕄) : bigSep Finset.univ Φ = iprop(Φ 0 ∗ Φ 1) := bigSep_fin_two Φ

/-- The staging buffer is its two rows, -/
theorem stage_split (f : stageM.view.ty.Contents (Elt F)) (v w : Blk F)
    (hv : stageM.view.readAt (Elt F) (rowR 0).toLoadRect f = v) (hw : stageM.view.readAt (Elt F) (rowR 1).toLoadRect f = w) :
    (stageM.view.loc (c : Thread nD τ) ↦[stageM.view.set]{fullShare} f : sProp 𝕄)
      ⊢ iprop(owns (c : Thread nD τ) (rowM true) fullShare (sq v) ∗ owns (c : Thread nD τ) (rowM false) fullShare (sq w)) := by
  subst hv hw
  rw [pointsTo_rects (c : Thread nD τ) stageM fullShare rowR (fun _ _ => rfl) rowR_disjoint rowR_cover f, two_rows]
  have h (dd : Bool) : (owns (c : Thread nD τ) (stageM.slice (rowR (rowOf dd)) (fun _ => rfl)) fullShare
        (fun j => stageM.view.read (Elt F) f ((rowR (rowOf dd)).emb j)) : sProp 𝕄)
      ⊢ owns (c : Thread nD τ) (rowM dd) fullShare (sq (stageM.view.readAt (Elt F) (rowR (rowOf dd)).toLoadRect f)) := by
    rw [owns_slice_read]
    unfold owns
    iintro H
    iexists f
    isplitr; · (ipureintro; rfl)
    have e : (rowM dd).view.set = (stageM.view.slice (rowR (rowOf dd))).set := View.set_reshape _ _
    rw [e]
    iexact H
  iintro ⟨H1, H2⟩
  isplitl [H1]
  · iapply (h true); iexact H1
  · iapply (h false); iexact H2

/-- and back. -/
theorem stage_join :
    iprop(someOf (F := F) c (rowM true) ∗ someOf (F := F) c (rowM false))
      ⊢ iprop(∃ f : stageM.view.ty.Contents (Elt F), (stageM.view.loc (c : Thread nD τ) ↦[stageM.view.set]{fullShare} f)) := by
  have h (dd : Bool) : (someOf (F := F) c (rowM dd))
      ⊢ ownsSat (c : Thread nD τ) (stageM.slice (rowR (rowOf dd)) (fun _ => rfl)) fullShare fun _ => True := by
    refine (unsqueeze_some (stageM.slice (rowR (rowOf dd)) (fun _ => rfl))).trans ?_
    iintro ⟨%v, H⟩
    iapply (ownsSat_intro (c : Thread nD τ) _ fullShare (X := v) trivial)
    iexact H
  have h1 : iprop(someOf (F := F) c (rowM true) ∗ someOf (F := F) c (rowM false))
      ⊢ bigSep Finset.univ fun s => ownsSat (c : Thread nD τ) (stageM.slice (rowR s) (fun _ => rfl)) fullShare fun _ => True := by
    rw [two_rows]
    iintro ⟨H1, H2⟩
    isplitl [H1]
    · iapply (h true); iexact H1
    · iapply (h false); iexact H2
  refine h1.trans ((ownsSat_of_rects (c : Thread nD τ) stageM fullShare rowR (fun _ _ => rfl) rowR_disjoint rowR_cover
    (fun _ _ => True)).trans ((ownsSat_elim (c : Thread nD τ) stageM fullShare _).trans ?_))
  unfold owns
  iintro ⟨%X, -, %f, -, H⟩
  iexists f
  iexact H

/-! ## A hop with its loads -/

/-- Hop 0 computes with the staged rows, -/
theorem wp_hop_first (d₁ d₂ : Dev nD) (e₁ : d₁ = nxt c) (e₂ : d₂ = prv c)
    {src₁ dst₁ src₂ dst₂ : Memref sig .tc .vmem S256x512 .bf16} (hs₁ : src₁ = srcM true 0 := by exact rfl) (hd₁ : dst₁ = slotM true (0 + 1) := by exact rfl)
    (hs₂ : src₂ = srcM false 0 := by exact rfl) (hd₂ : dst₂ = slotM false (0 + 1) := by exact rfl)
    {sS₁ sR₁ sS₂ sR₂ : DmaSem sig} (hS₁ : SemLoc.dma sS₁ = osem (sendK true 0) := by exact rfl) (hR₁ : SemLoc.dma sR₁ = osem (recvK true 0) := by exact rfl)
    (hS₂ : SemLoc.dma sS₂ = osem (sendK false 0) := by exact rfl) (hR₂ : SemLoc.dma sR₂ = osem (recvK false 0) := by exact rfl)
    {hsc₁ : dst₁.view.ref.isScScratch = false} {hsrc₁ : src₁.view.WordExact} {hdst₁ : dst₁.view.WordExact}
    {ht₁ : DmaTarget.Typed .vmem (.dma sR₁) (.remote (Dev.tc d₁ : Thread nD τ) dst₁ (.dma sS₁) hsc₁)}
    {hsc₂ : dst₂.view.ref.isScScratch = false} {hsrc₂ : src₂.view.WordExact} {hdst₂ : dst₂.view.WordExact}
    {ht₂ : DmaTarget.Typed .vmem (.dma sR₂) (.remote (Dev.tc d₂ : Thread nD τ) dst₂ (.dma sS₂) hsc₂)}
    {M₁ M₂ : Memref sig .tc .vmem S2x256x512 .bf16} (hM₁ : M₁ = stageM := by exact rfl) (hM₂ : M₂ = stageM := by exact rfl)
    {o₁ o₂ : Fin 3 → ℕ} (ho₁ : o₁ = ![(rowOf true).val, 0, 0] := by exact rfl) (ho₂ : o₂ = ![(rowOf false).val, 0, 0] := by exact rfl)
    {i₁ : ∀ a, o₁ a + S1x256x512.size a ≤ S2x256x512.size a} {i₂ : ∀ a, o₂ a + S1x256x512.size a ≤ S2x256x512.size a}
    {l₁ : M₁.view.LoadsAt (Rect.unit (s := S2x256x512) o₁ S1x256x512.size i₁).toLoadRect}
    {l₂ : M₂.view.LoadsAt (Rect.unit (s := S2x256x512) o₂ S1x256x512.size i₂).toLoadRect}
    {a₁ a₂ a₃ a₄ b₁ b₂ b₃ b₄ : Memref sig .tc .vmem S256x512 .bf16}
    (hb₁ : b₁.view.dmaCredit = N := by exact rfl) (hb₂ : b₂.view.dmaCredit = N := by exact rfl) (hb₃ : b₃.view.dmaCredit = N := by exact rfl) (hb₄ : b₄.view.dmaCredit = N := by exact rfl)
    {g₁ : a₁.view.WordExact} {g₂ : a₂.view.WordExact} {g₃ : a₃.view.WordExact} {g₄ : a₄.view.WordExact}
    {f₁ : b₁.view.WordExact} {f₂ : b₂.view.WordExact} {f₃ : b₃.view.WordExact} {f₄ : b₄.view.WordExact}
    {α : Type} {Q : α → sProp 𝕄} {k : Blk F → Blk F → PUnit → Prog (TpuEff nD τ sig (Elt F) Λ₀ .tc) α} :
    HopInv m ρ K 0 c
      ⊢ iprop((HopInv m ρ K 1 c -∗ wp frame (wpE (defs₀ (F := F)) 𝒱₀ (c : Thread nD τ) none) Set.univ (k (blk m ρ true 0 c) (blk m ρ false 0 c) ⟨⟩) Q)
          -∗ wp frame (wpE (defs₀ (F := F)) 𝒱₀ (c : Thread nD τ) none) Set.univ
              (.op (.enqueueDma src₁ (.remote (Dev.tc d₁ : Thread nD τ) dst₁ (.dma sS₁) hsc₁) (.dma sR₁) hsrc₁ hdst₁ ht₁)
                fun _ => .op (.enqueueDma src₂ (.remote (Dev.tc d₂ : Thread nD τ) dst₂ (.dma sS₂) hsc₂) (.dma sR₂) hsrc₂ hdst₂ ht₂)
                fun _ => .op (.load M₁ (Rect.unit (s := S2x256x512) o₁ S1x256x512.size i₁).toLoadRect l₁)
                fun w₁ => .op (.load M₂ (Rect.unit (s := S2x256x512) o₂ S1x256x512.size i₂).toLoadRect l₂)
                fun w₂ => .op (.waitDma2 sS₁ a₁ b₁ g₁ f₁) fun _ => .op (.waitDma2 sR₁ a₂ b₂ g₂ f₂) fun _ =>
                .op (.waitDma2 sS₂ a₃ b₃ g₃ f₃) fun _ => .op (.waitDma2 sR₂ a₄ b₄ g₄ f₄) (k w₁ w₂)) Q) := by
  iintro H Hk
  iapply (wp_copies m ρ K 0 (by decide) d₁ d₂ e₁ e₂ hs₁ hd₁ hs₂ hd₂ hS₁ hR₁ hS₂ hR₂) $$ H
  unfold Mid
  iintro ⟨HR, Hlev, Hpos, Htodo, Hcr, Hperm, Hmine, ⟨Hs1, Hr1⟩, ⟨Hs2, Hr2⟩, Hrest⟩
  ihave Hs1 := (show (owns (c : Thread nD τ) (srcM true 0) fullShare.right (sq (blk m ρ true 0 c)) : sProp 𝕄)
    ⊢ owns (c : Thread nD τ) (rowM true) fullShare.right (sq (blk m ρ true 0 c)) from .rfl) $$ Hs1
  iapply (wp_load_row true c (blk m ρ true 0 c) fullShare.right hM₁ ho₁) $$ Hs1
  iintro Hs1
  ihave Hs2 := (show (owns (c : Thread nD τ) (srcM false 0) fullShare.right (sq (blk m ρ false 0 c)) : sProp 𝕄)
    ⊢ owns (c : Thread nD τ) (rowM false) fullShare.right (sq (blk m ρ false 0 c)) from .rfl) $$ Hs2
  iapply (wp_load_row false c (blk m ρ false 0 c) fullShare.right hM₂ ho₂) $$ Hs2
  iintro Hs2
  iapply (wp_waits m ρ K (c := c) 0 (by decide) hS₁ hR₁ hS₂ hR₂ hb₁ hb₂ hb₃ hb₄) $$ [HR Hlev Hpos Htodo Hcr Hperm Hmine Hs1 Hr1 Hs2 Hr2 Hrest]
  · unfold Mid
    isplitl [HR]; · iexact HR
    isplitl [Hlev]; · iexact Hlev
    isplitl [Hpos]; · iexact Hpos
    isplitl [Htodo]; · iexact Htodo
    isplitl [Hcr]; · iexact Hcr
    isplitl [Hperm]; · iexact Hperm
    isplitl [Hmine]; · iexact Hmine
    isplitl [Hs1 Hr1]
    · isplitl [Hs1]; · iexact Hs1
      iexact Hr1
    isplitl [Hs2 Hr2]
    · isplitl [Hs2]; · iexact Hs2
      iexact Hr2
    iexact Hrest
  iexact Hk

/-- and a later hop with the slots. -/
theorem wp_hop (n : ℕ) (hn : n + 1 < 15) (d₁ d₂ : Dev nD) (e₁ : d₁ = nxt c) (e₂ : d₂ = prv c)
    {src₁ dst₁ src₂ dst₂ : Memref sig .tc .vmem S256x512 .bf16} (hs₁ : src₁ = srcM true (n + 1) := by exact rfl) (hd₁ : dst₁ = slotM true (n + 1 + 1) := by exact rfl)
    (hs₂ : src₂ = srcM false (n + 1) := by exact rfl) (hd₂ : dst₂ = slotM false (n + 1 + 1) := by exact rfl)
    {sS₁ sR₁ sS₂ sR₂ : DmaSem sig} (hS₁ : SemLoc.dma sS₁ = osem (sendK true (n + 1)) := by exact rfl) (hR₁ : SemLoc.dma sR₁ = osem (recvK true (n + 1)) := by exact rfl)
    (hS₂ : SemLoc.dma sS₂ = osem (sendK false (n + 1)) := by exact rfl) (hR₂ : SemLoc.dma sR₂ = osem (recvK false (n + 1)) := by exact rfl)
    {hsc₁ : dst₁.view.ref.isScScratch = false} {hsrc₁ : src₁.view.WordExact} {hdst₁ : dst₁.view.WordExact}
    {ht₁ : DmaTarget.Typed .vmem (.dma sR₁) (.remote (Dev.tc d₁ : Thread nD τ) dst₁ (.dma sS₁) hsc₁)}
    {hsc₂ : dst₂.view.ref.isScScratch = false} {hsrc₂ : src₂.view.WordExact} {hdst₂ : dst₂.view.WordExact}
    {ht₂ : DmaTarget.Typed .vmem (.dma sR₂) (.remote (Dev.tc d₂ : Thread nD τ) dst₂ (.dma sS₂) hsc₂)}
    {M₁ M₂ : Memref sig .tc .vmem S4x256x512 .bf16} (hM₁ : M₁ = ringM true := by exact rfl) (hM₂ : M₂ = ringM false := by exact rfl)
    {o₁ o₂ : Fin 3 → ℕ} (ho₁ : o₁ = ![(slot (n + 1)).val, 0, 0] := by exact rfl) (ho₂ : o₂ = ![(slot (n + 1)).val, 0, 0] := by exact rfl)
    {i₁ : ∀ a, o₁ a + S1x256x512.size a ≤ S4x256x512.size a} {i₂ : ∀ a, o₂ a + S1x256x512.size a ≤ S4x256x512.size a}
    {l₁ : M₁.view.LoadsAt (Rect.unit (s := S4x256x512) o₁ S1x256x512.size i₁).toLoadRect}
    {l₂ : M₂.view.LoadsAt (Rect.unit (s := S4x256x512) o₂ S1x256x512.size i₂).toLoadRect}
    {a₁ a₂ a₃ a₄ b₁ b₂ b₃ b₄ : Memref sig .tc .vmem S256x512 .bf16}
    (hb₁ : b₁.view.dmaCredit = N := by exact rfl) (hb₂ : b₂.view.dmaCredit = N := by exact rfl) (hb₃ : b₃.view.dmaCredit = N := by exact rfl) (hb₄ : b₄.view.dmaCredit = N := by exact rfl)
    {g₁ : a₁.view.WordExact} {g₂ : a₂.view.WordExact} {g₃ : a₃.view.WordExact} {g₄ : a₄.view.WordExact}
    {f₁ : b₁.view.WordExact} {f₂ : b₂.view.WordExact} {f₃ : b₃.view.WordExact} {f₄ : b₄.view.WordExact}
    {α : Type} {Q : α → sProp 𝕄} {k : Blk F → Blk F → PUnit → Prog (TpuEff nD τ sig (Elt F) Λ₀ .tc) α} :
    HopInv m ρ K (n + 1) c
      ⊢ iprop((HopInv m ρ K (n + 2) c -∗ wp frame (wpE (defs₀ (F := F)) 𝒱₀ (c : Thread nD τ) none) Set.univ
            (k (blk m ρ true (n + 1) c) (blk m ρ false (n + 1) c) ⟨⟩) Q)
          -∗ wp frame (wpE (defs₀ (F := F)) 𝒱₀ (c : Thread nD τ) none) Set.univ
              (.op (.enqueueDma src₁ (.remote (Dev.tc d₁ : Thread nD τ) dst₁ (.dma sS₁) hsc₁) (.dma sR₁) hsrc₁ hdst₁ ht₁)
                fun _ => .op (.enqueueDma src₂ (.remote (Dev.tc d₂ : Thread nD τ) dst₂ (.dma sS₂) hsc₂) (.dma sR₂) hsrc₂ hdst₂ ht₂)
                fun _ => .op (.load M₁ (Rect.unit (s := S4x256x512) o₁ S1x256x512.size i₁).toLoadRect l₁)
                fun w₁ => .op (.load M₂ (Rect.unit (s := S4x256x512) o₂ S1x256x512.size i₂).toLoadRect l₂)
                fun w₂ => .op (.waitDma2 sS₁ a₁ b₁ g₁ f₁) fun _ => .op (.waitDma2 sR₁ a₂ b₂ g₂ f₂) fun _ =>
                .op (.waitDma2 sS₂ a₃ b₃ g₃ f₃) fun _ => .op (.waitDma2 sR₂ a₄ b₄ g₄ f₄) (k w₁ w₂)) Q) := by
  iintro H Hk
  iapply (wp_copies m ρ K (n + 1) hn d₁ d₂ e₁ e₂ hs₁ hd₁ hs₂ hd₂ hS₁ hR₁ hS₂ hR₂) $$ H
  unfold Mid
  iintro ⟨HR, Hlev, Hpos, Htodo, Hcr, Hperm, Hmine, ⟨Hs1, Hr1⟩, ⟨Hs2, Hr2⟩, Hrest⟩
  ihave Hs1 := (show (owns (c : Thread nD τ) (srcM true (n + 1)) fullShare.right (sq (blk m ρ true (n + 1) c)) : sProp 𝕄)
    ⊢ owns (c : Thread nD τ) (slotM true (n + 1)) fullShare.right (sq (blk m ρ true (n + 1) c)) from .rfl) $$ Hs1
  iapply (wp_load_slot true (n + 1) c (blk m ρ true (n + 1) c) fullShare.right hM₁ ho₁) $$ Hs1
  iintro Hs1
  ihave Hs2 := (show (owns (c : Thread nD τ) (srcM false (n + 1)) fullShare.right (sq (blk m ρ false (n + 1) c)) : sProp 𝕄)
    ⊢ owns (c : Thread nD τ) (slotM false (n + 1)) fullShare.right (sq (blk m ρ false (n + 1) c)) from .rfl) $$ Hs2
  iapply (wp_load_slot false (n + 1) c (blk m ρ false (n + 1) c) fullShare.right hM₂ ho₂) $$ Hs2
  iintro Hs2
  iapply (wp_waits m ρ K (c := c) (n + 1) hn hS₁ hR₁ hS₂ hR₂ hb₁ hb₂ hb₃ hb₄) $$ [HR Hlev Hpos Htodo Hcr Hperm Hmine Hs1 Hr1 Hs2 Hr2 Hrest]
  · unfold Mid
    isplitl [HR]; · iexact HR
    isplitl [Hlev]; · iexact Hlev
    isplitl [Hpos]; · iexact Hpos
    isplitl [Htodo]; · iexact Htodo
    isplitl [Hcr]; · iexact Hcr
    isplitl [Hperm]; · iexact Hperm
    isplitl [Hmine]; · iexact Hmine
    isplitl [Hs1 Hr1]
    · isplitl [Hs1]; · iexact Hs1
      iexact Hr1
    isplitl [Hs2 Hr2]
    · isplitl [Hs2]; · iexact Hs2
      iexact Hr2
    iexact Hrest
  iexact Hk

end Cert.MoeRing
-- ==== Proof.Entry.lean ====
/-
# Entering and leaving the ring

What a device starts from and that this makes up what it holds when hop 0 begins; and what it gives back after the last hop.
-/
module

public import proofs.«01_k».proof.Proof.Buffers

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ AllU ℕ

variable (m : (ℓ : Loc nD τ sig) → Buf (Elt F) ℓ) (ρ : Dev nD → PrngReg)

variable (K : Dev nD × Cx → ℕ)

variable {c : Dev nD}

/-! ## What a device starts from -/

/-- The tokens of the duties a device pays. -/
def payToks (c : Dev nD) : sProp 𝕄 :=
  iprop(dutyTok ER (barCell (prv c)) 0 true ∗ dutyTok ER (barCell (nxt c)) 0 false
    ∗ bigSep (Finset.Ico 0 15) fun i =>
        iprop((dutyTok ER (sendCell c true i) (i / 4) false ∗ dutyTok ER (recvCell (nxt c) true i) (i / 4) false)
          ∗ (dutyTok ER (sendCell c false i) (i / 4) false ∗ dutyTok ER (recvCell (prv c) false i) (i / 4) false)))

/-- The ghost state of device `c`, the cells' invariants under the names `K`. -/
def ghost (c : Dev nD) : sProp 𝕄 :=
  iprop(recs m ρ K ∗ posns 0 c ∗ atPos ER (barCell c) 0 ∅ 0 ∗ reached ER (barCell (prv c)) 0 ∗ reached ER (barCell (nxt c)) 0 ∗ payToks c)

/-- The credits of its waits: two units at its barrier cell, a copy's at its landing cells for each hop. -/
def credits (c : Dev nD) : sProp 𝕄 :=
  iprop(cred (tallyAt (barCell c) 0 2)
    ∗ bigSep (Finset.Ico 0 15) fun i => iprop(cred (tallyAt (recvCell c true i) i N) ∗ cred (tallyAt (recvCell c false i) i N)))

def start (c : Dev nD) : sProp 𝕄 := iprop((∃ K, ghost m ρ K c) ∗ credits c ∗ levAts L lv)

/-- A device's own counters, back at zero. -/
def zeros (c : Dev nD) : sProp 𝕄 := bigSep Finset.univ fun k : Own => semVal (ownCell c k) 0

/-! ## Entering the ring -/

theorem bigSep_both (S : Finset ℕ) (Φ Ψ : ℕ → sProp 𝕄) :
    iprop(bigSep S Φ ∗ bigSep S Ψ) ⊢ bigSep S fun i => iprop(Φ i ∗ Ψ i) := by
  rw [bigSep_sep']

theorem pos_zero (k : Own) : pos 0 k = 0 := by
  have := first_lt k.1 k.2.2
  unfold pos; omega

/-- That every cell's round 0 is reached. -/
def atZero (c : Dev nD) : sProp 𝕄 := bigSep Finset.univ fun k : Own => reached ER (ownCell c k) 0
instance atZero_persistent (c : Dev nD) : BI.Persistent (atZero (F := F) c) := by unfold atZero; infer_instance

theorem posns_zero (c : Dev nD) : (posns (F := F) 0 c) ⊢ iprop(posns 0 c ∗ atZero c) := by
  unfold posns atZero
  simp only [pos_zero]
  rw [bigSep_sep']
  iintro ⟨H1, #H2⟩
  isplitl [H1]
  · isplitl [H1]; · iexact H1
    iexact H2
  · iexact H2

theorem atZero_elim (c : Dev nD) (k : Own) : (atZero (F := F) c) ⊢ reached ER (ownCell c k) 0 := by
  unfold atZero; exact bigSep_elim (Finset.mem_univ k)

theorem bigSep_under {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A whole ring buffer, its cells at round 0, is leave to do the first four writes into it. -/
theorem frees_entry (dd : Bool) (f : (ringM dd).view.ty.Contents (Elt F)) :
    iprop(atZero c ∗ ((ringM dd).view.loc (c : Thread nD τ) ↦[(ringM dd).view.set]{fullShare} f))
      ⊢ bigSep (Finset.Ico 0 4) fun j => free (F := F) dd c j := by
  refine (sep_mono_right (ring_split dd f)).trans (bigSep_under (R := atZero c) fun j hj => ?_)
  have hj' : j / 4 = 0 := by have := (Finset.mem_Ico.mp hj).2; omega
  rw [free_def, hj']
  iintro ⟨#HZ, H⟩
  isplitl [H]; · iexact H
  iapply (atZero_elim c (recvK dd j)); iexact HZ

/-- The tokens and credits of the hops, hop by hop. -/
theorem todo_entry (c : Dev nD) :
    iprop((bigSep (Finset.Ico 0 15) fun i =>
        iprop((dutyTok ER (sendCell c true i) (i / 4) false ∗ dutyTok ER (recvCell (nxt c) true i) (i / 4) false)
          ∗ (dutyTok ER (sendCell c false i) (i / 4) false ∗ dutyTok ER (recvCell (prv c) false i) (i / 4) false)))
      ∗ bigSep (Finset.Ico 0 15) fun i => iprop(cred (tallyAt (recvCell c true i) i N) ∗ cred (tallyAt (recvCell c false i) i N)))
      ⊢ (todo (F := F) 0 c) := by
  refine (bigSep_both _ _ _).trans (bigSep_mono fun i _ => ?_)
  show BIBase.Entails (PROP := sProp 𝕄) _ _
  iintro ⟨⟨⟨H1, H2⟩, H3, H4⟩, H5, H6⟩
  isplitl [H1 H2 H5]
  · isplitl [H1]; · iexact H1
    isplitl [H2]; · iexact H2
    iexact H5
  · isplitl [H3]; · iexact H3
    isplitl [H4]; · iexact H4
    iexact H6

/-! ## The staged rows -/

/-- The staging buffer once both rows are written. -/
def staged (f : stageM.view.ty.Contents (Elt F)) (v w : Blk F) : stageM.view.ty.Contents (Elt F) :=
  (stageM.access (rowR 1)).write (Elt F) ((stageM.access (rowR 0)).write (Elt F) f v Finset.univ) w Finset.univ

theorem staged_row0 (f : stageM.view.ty.Contents (Elt F)) (v w : Blk F) :
    stageM.view.readAt (Elt F) (rowR 0).toLoadRect (staged f v w) = v := by
  unfold staged
  refine (View.read_slice_write_slice_of_disjoint (v := stageM.view) (rowR 0) (rowR 1) _ w Finset.univ ?_).trans
    (View.read_write_univ (v := stageM.view.slice (rowR 0)) f v)
  show Disjoint (stageM.view.slice (rowR 0)).set (stageM.view.slice (rowR 1)).set
  rw [View.set_slice, View.set_slice]
  exact (Finset.disjoint_map _).mpr (rowR_disjoint 0 1 (by decide))
theorem staged_row1 (f : stageM.view.ty.Contents (Elt F)) (v w : Blk F) :
    stageM.view.readAt (Elt F) (rowR 1).toLoadRect (staged f v w) = w := by
  unfold staged
  exact View.read_write_univ (v := stageM.view.slice (rowR 1)) _ w

/-- What hop 0 starts from: leave to do the first four writes, and the staged rows in hand. -/
theorem hop_entry (c : Dev nD) (Wt : Waits sig ℕ) :
    iprop(recs m ρ K ∗ levAts L lv ∗ atZero c ∗ posns 0 c ∗ todo 0 c ∗ barPay c true ∗ barPay c false
        ∗ owns (c : Thread nD τ) (rowM true) fullShare (sq (W m ρ c true)) ∗ owns (c : Thread nD τ) (rowM false) fullShare (sq (W m ρ c false))
        ∗ owes (c : Thread nD τ) (owed 0 c) Wt)
      ⊢ HopInv m ρ K 0 c := by
  unfold HopInv barPay
  iintro ⟨HR, Hlev, #HZ, Hpos, Htodo, Hp1, Hp2, Hs1, Hs2, HO⟩
  isplitl [HR]; · iexact HR
  isplitl [Hlev]; · iexact Hlev
  isplitl [Hpos]; · iexact Hpos
  isplitl [Htodo]; · iexact Htodo
  isplitl [Hp1 Hp2]
  · isplitl [Hp1]; · iexact Hp1
    iexact Hp2
  isplitr
  · unfold mine
    rw [show Finset.Ico (B 0) (0 + 3) = ∅ by decide, bigSep_empty, bigSep_empty]
    isplitl <;> iempintro
  isplitl [Hs1]
  · isplitl [Hs1]; · iexact Hs1
    iapply (atZero_elim c (recvK true (0 + 3))); iexact HZ
  isplitl [Hs2]
  · isplitl [Hs2]; · iexact Hs2
    iapply (atZero_elim c (recvK false (0 + 3))); iexact HZ
  isplitr
  · rw [show rows (F := F) c 0 = iprop(emp) from rfl]; iempintro
  iexists Wt
  iexact HO

/-! ## Leaving the ring -/

/-- After the last hop: the freed slots and the one in hand are the whole ring buffer again. -/
theorem ring_exit (dd : Bool) :
    iprop((bigSep (Finset.Ico 15 18) fun j => free (F := F) dd c j) ∗ owns (c : Thread nD τ) (srcM dd 15) fullShare (sq (blk m ρ dd 15 c)))
      ⊢ iprop(∃ f : (ringM dd).view.ty.Contents (Elt F), ((ringM dd).view.loc (c : Thread nD τ) ↦[(ringM dd).view.set]{fullShare} f)) := by
  refine BI.Entails.trans ?_ (ring_join (c := c) dd)
  rw [bigSep_eq_bigSepL_of_eq [15, 16, 17] (by decide) (by decide), bigSep_eq_bigSepL_of_eq [0, 1, 2, 3] (by decide) (by decide)]
  show iprop((free (F := F) dd c 15 ∗ free (F := F) dd c 16 ∗ free (F := F) dd c 17) ∗ owns (c : Thread nD τ) (srcM dd 15) fullShare (sq (blk m ρ dd 15 c)))
    ⊢ iprop(someOf c (slotM dd 1) ∗ someOf c (slotM dd 2) ∗ someOf c (slotM dd 3) ∗ someOf c (slotM dd 4))
  rw [free_def, free_def, free_def]
  iintro ⟨⟨⟨⟨%v0, H0⟩, -⟩, ⟨⟨%v1, H1⟩, -⟩, ⟨⟨%v2, H2⟩, -⟩⟩, H3⟩
  have e16 : slotM dd (15 + 1) = slotM dd 4 := rfl
  have e17 : slotM dd (16 + 1) = slotM dd 1 := rfl
  have e18 : slotM dd (17 + 1) = slotM dd 2 := rfl
  have e15 : srcM dd 15 = slotM dd 3 := rfl
  rw [e16, e17, e18, e15]
  isplitl [H1]; · iexists v1; iexact H1
  isplitl [H2]; · iexists v2; iexact H2
  isplitl [H3]; · iexists _; iexact H3
  iexists v0; iexact H0

theorem pos_end (k : Own) (r : ℕ) (hr : pos 15 k ≤ r) : 15 ≤ hopOf (ownNo k) r := by
  rw [hopOf_own]
  have := first_lt k.1 k.2.2
  unfold pos at hr; omega

/-- The cells close: no round of theirs is left. -/
theorem cells_close (c : Dev nD) : iprop(recs m ρ K ∗ posns 15 c) ⊢ |={Set.univ}=> zeros (F := F) c := by
  unfold posns zeros
  refine (bigSep_under (R := recs m ρ K) (Ψ := fun k : Own => iprop(|={Set.univ}=> semVal (ownCell c k) 0)) fun k _ => ?_).trans (bigSep_fupd _ _)
  iintro ⟨#HR, Hat, -⟩
  iapply (Rounds.cell_close ER (ringRd m ρ) (Set.mem_univ (K (c, some k))) (fun h => h) (R := pos 15 k)
    (fun r hr => duties_own_late m ρ c k r (pos_end k r hr)))
  isplitr; · iapply (inv_at m ρ K c (some k)); iexact HR
  iexact Hat

end Cert.MoeRing
-- ==== Proof.Body.lean ====
/-
# The kernel, hop by hop, on one device
-/
module

public import proofs.«01_k».proof.Proof.Entry

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellOf)

variable {F : FTy → Type} [FloatOps F]

local notation "𝕄" => MT nD τ sig ℕ (Elt F) ℕ AllU ℕ

variable (m : (ℓ : Loc nD τ sig) → Buf (Elt F) ℓ) (ρ : Dev nD → PrngReg)

variable (K : Dev nD × Cx → ℕ)

/-! ## What the kernel computes -/

/-- A device's number, as the kernel works with it. -/
def me (c : Dev nD) : BitVec 32 := Scalar.remsi (Scalar.divsi (Dev.word c) 1#32) 16#32
/-- The experts whose weights it has in hand at hop `h`. -/
def expert (c : Dev nD) (h : ℕ) : Bool → BitVec 32
  | true => Scalar.muli 2#32 (Scalar.remsi (Scalar.addi (Scalar.subi (me c) (BitVec.ofNat 32 h)) 16#32) 16#32)
  | false => Scalar.addi (Scalar.muli 2#32 (Scalar.remsi (Scalar.addi (me c) (BitVec.ofNat 32 h)) 16#32)) 1#32

/-- One expert's weighted product added to a sum, for the rows routed to that expert. -/
def addExpert (x : FVec F S512x256 .bf16) (idx : IVec S512x1 32) (gate : FVec F S512x1 .f32) (a : FVec F S512x512 .f32) (e : BitVec 32) (w : Blk F) :
    FVec F S512x512 .f32 :=
  addf a (mulf (broadcastTo S512x512 (mulf gate (sitofp .f32 (extui 32 (cmpi .eq idx (broadcast S512x1 e)) natLt_1_32))) broadcasts_S512x1_S512x512)
    (matmul dot_S512x256_S256x512_S512x512_1_0_0_1_n_n none x (shapeCast S256x512 w shapeCasts_S1x256x512_S256x512) (constant S512x512 .f32 0x00000000#32)))

/-- The sum after `h` hops. -/
def partialSum (c : Dev nD) : ℕ → FVec F S512x512 .f32
  | 0 => k0_pay8 (xIn m ρ c) (swIn m ρ c)
  | h + 1 => addExpert (k0_pay5 (xIn m ρ c)) (k0_pay6 (idIn m ρ c)) (k0_pay7 (xIn m ρ c) (rwIn m ρ c) (idIn m ρ c))
      (addExpert (k0_pay5 (xIn m ρ c)) (k0_pay6 (idIn m ρ c)) (k0_pay7 (xIn m ρ c) (rwIn m ρ c) (idIn m ρ c))
        (partialSum c h) (expert c h true) (blk m ρ true h c))
      (expert c h false) (blk m ρ false h c)

/-- The kernel's result on device `c`. -/
def outAt (c : Dev nD) : (cc0_stg5_0 : Ref sig .tc).ty.Contents (Elt F) := partialSum m ρ c 16

/-! ## The pipeline's proof data -/

/-- The kernel's own buffers, at some contents. -/
abbrev scratches (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- Before the kernel's one point, -/
def Φ₀ (c : Dev nD) : sProp 𝕄 := iprop(start m ρ c ∗ scratches c)
/-- and after it: every counter back at zero. -/
def Φ₁ (c : Dev nD) : sProp 𝕄 := iprop(scratches (F := F) c ∗ zeros c ∗ semVal (barCell c) 0)

def dats (_ : Fin 1) (c : Dev nD) : Dat τ (Elt F) ℕ ℕ AllU ℕ cfg0 c where
  A w := (st₀ m ρ).mem ((cfg0.win w).arr.view.loc (c : Thread nD τ))
  after w _ := match w with
    | ⟨0, _⟩ => xIn m ρ c
    | ⟨1, _⟩ => rwIn m ρ c
    | ⟨2, _⟩ => idIn m ρ c
    | ⟨3, _⟩ => ewIn m ρ c
    | ⟨4, _⟩ => swIn m ρ c
    | ⟨5, _⟩ => outAt m ρ c
  Φ t := match t with
    | ⟨0, _⟩ => Φ₀ m ρ c
    | ⟨_ + 1, _⟩ => Φ₁ c
  q _ := fullShare
  owed t := match t with
    | ⟨0, _⟩ => owedAll c
    | ⟨_ + 1, _⟩ => 0

theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

theorem fetch_at (w : Fin 6) (h : w ≠ 5) (t : Fin cfg0.N) : (cfg0.win w).fetch t = true := by
  rw [fin_N0 t]; revert h; revert w; decide

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_whole_eq (c : Dev nD) (b : Ref sig .tc) (X : b.ty.Contents (Elt F)) :
    (owns (c : Thread nD τ) (Memref.whole b) fullShare X : sProp 𝕄) = stg c b X := by
  unfold owns; simp only [Memref.view_whole, View.read_whole, View.set_whole]

theorem whole_eq (c : Dev nD) (b : Ref sig .tc) (f : Buf (Elt F) ((c : Thread nD τ).loc b)) :
    ((Memref.whole b).view.loc (c : Thread nD τ) ↦[(Memref.whole b).view.set]{fullShare} f : sProp 𝕄) = (((c : Thread nD τ).loc b) ↦{fullShare} f) := by
  simp only [Memref.view_whole, View.set_whole]

/-! ## The body -/

theorem zero2 : (![0, 0] : Fin 2 → Nat) = fun _ => 0 := funext fun a => by fin_cases a <;> rfl

variable (K : Dev nD × Cx → ℕ)

def bodyPre (c : Dev nD) : sProp 𝕄 :=
  iprop((ghost m ρ K c ∗ credits c ∗ levAts L lv ∗ scratches (F := F) c)
    ∗ (dats m ρ 0 c).owesAt 0 t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop(Φ₁ c ∗ (dats m ρ 0 c).owesAt 0 t0_0.succ ∗ stg c cc0_stg0_0 (xIn m ρ c) ∗ stg c cc0_stg1_0 (rwIn m ρ c) ∗ stg c cc0_stg2_0 (idIn m ρ c)
    ∗ stg c cc0_stg3_0 (ewIn m ρ c) ∗ stg c cc0_stg4_0 (swIn m ρ c) ∗ stg c cc0_stg5_0 (outAt m ρ c))

theorem write_out (f w : (cc0_stg5_0 : Ref sig .tc).ty.Contents (Elt F)) :
    ((Memref.whole cc0_stg5_0 : Memref sig .tc .vmem S512x512 .f32).access
      (Rect.unit (s := S512x512) ![0, 0] S512x512.size inb_S512x512_S512x512_0_0) : View sig .tc _ _ _).write (Elt F) f w Finset.univ = w :=
  Memref.write_access_unit_zero_univ (Elt F) cc0_stg5_0 zero2 _ f w

/-- What is left after the last hop makes up the kernel's own buffers. -/
theorem scratches_exit (c : Dev nD) :
    iprop(rows c 15
        ∗ ((bigSep (Finset.Ico 15 18) fun j => free (F := F) true c j) ∗ owns (c : Thread nD τ) (srcM true 15) fullShare (sq (blk m ρ true 15 c)))
        ∗ ((bigSep (Finset.Ico 15 18) fun j => free (F := F) false c j) ∗ owns (c : Thread nD τ) (srcM false 15) fullShare (sq (blk m ρ false 15 c))))
      ⊢ scratches (F := F) c := by
  iintro ⟨Hrows, H1, H2⟩
  ihave H0 := (((show (rows (F := F) c 15) ⊢ iprop(someOf c (rowM true) ∗ someOf c (rowM false)) from .rfl).trans (stage_join (c := c))).trans
    (show _ ⊢ (iprop(∃ f, (Memref.whole cc0_scratch0).view.loc (c : Thread nD τ) ↦[(Memref.whole cc0_scratch0).view.set]{fullShare} f) : sProp 𝕄) from .rfl)) $$ Hrows
  ihave H1 := ((ring_exit m ρ (c := c) true).trans (show _ ⊢ (iprop(∃ f, (Memref.whole cc0_scratch1).view.loc (c : Thread nD τ) ↦[(Memref.whole cc0_scratch1).view.set]{fullShare} f) : sProp 𝕄) from .rfl)) $$ H1
  ihave H2 := ((ring_exit m ρ (c := c) false).trans (show _ ⊢ (iprop(∃ f, (Memref.whole cc0_scratch2).view.loc (c : Thread nD τ) ↦[(Memref.whole cc0_scratch2).view.set]{fullShare} f) : sProp 𝕄) from .rfl)) $$ H2
  icases H0 with ⟨%f0, H0⟩
  icases H1 with ⟨%f1, H1⟩
  icases H2 with ⟨%f2, H2⟩
  ihave H0 := (Entails.of_eq (whole_eq c cc0_scratch0 f0)) $$ H0
  ihave H1 := (Entails.of_eq (whole_eq c cc0_scratch1 f1)) $$ H1
  ihave H2 := (Entails.of_eq (whole_eq c cc0_scratch2 f2)) $$ H2
  isplitl [H0]; · iexists f0; iexact H0
  isplitl [H1]; · iexists f1; iexact H1
  iexists f2; iexact H2

theorem left_eq (c : Dev nD) : (⟨k0_dev1 c, k0_dev1_lt c⟩ : Dev nD) = prv c := Fin.ext (k0_dev1_eq c)
theorem right_eq (c : Dev nD) : (⟨k0_dev2 c, k0_dev2_lt c⟩ : Dev nD) = nxt c := Fin.ext (k0_dev2_eq c)

set_option maxHeartbeats 40000000 in
set_option maxRecDepth 65536 in
/-- The body, one rule per effect up to the entry barrier and one per hop after it. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6) Kt := by
  simp only [cc0_body_eq_skeleton]; unfold cc0_body_skel
  simp only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel,
    semSignalWord, semWaitWord, Prog.lift, Prog.bind_op, Prog.bind_ret, Prog.pure_eq_ret, wp_deviceId]
  unfold bodyPre ghost credits payToks
  iintro ⟨⟨⟨⟨#HR, Hpos, HatB, #HrP, #HrN, HtP, HtN, Htok⟩, ⟨HcB, Hcr⟩, #Hlev, ⟨%fs, Hstage⟩, ⟨%fc, Hcw⟩, ⟨%fw, Hccw⟩⟩, Ho,
    ⟨%d0, %g0, %hg0, Hx⟩, ⟨%d1, %g1, %hg1, Hrw⟩, ⟨%d2, %g2, %hg2, Hid⟩, ⟨%d3, %g3, %hg3, Hew⟩, ⟨%d4, %g4, %hg4, Hsw⟩, ⟨%d5, %g5, %hg5, Hout⟩⟩, Hk⟩
  have hx : g0 = xIn m ρ c := by rw [hg0]; unfold Dat.before; rw [if_pos (fetch_at 0 (by decide) t0_0)]; rfl
  have hrw : g1 = rwIn m ρ c := by rw [hg1]; unfold Dat.before; rw [if_pos (fetch_at 1 (by decide) t0_0)]; rfl
  have hid : g2 = idIn m ρ c := by rw [hg2]; unfold Dat.before; rw [if_pos (fetch_at 2 (by decide) t0_0)]; rfl
  have hew : g3 = ewIn m ρ c := by rw [hg3]; unfold Dat.before; rw [if_pos (fetch_at 3 (by decide) t0_0)]; rfl
  have hsw : g4 = swIn m ρ c := by rw [hg4]; unfold Dat.before; rw [if_pos (fetch_at 4 (by decide) t0_0)]; rfl
  clear hg0 hg1 hg2 hg3 hg4 hg5
  subst hx hrw hid hew hsw
  unfold Dat.owesAt Pipeline.owesWithin
  icases Ho with ⟨%Wt, %hW, HO⟩
  rw [show (dats m ρ 0 c).owed t0_0.castSucc = owedAll c from rfl]
  simp only [left_eq c, right_eq c]
  -- the landing slots, to be given away
  ihave Hpos := (posns_zero (F := F) c) $$ Hpos
  icases Hpos with ⟨Hpos, #HZ⟩
  ihave Hcw := (Entails.of_eq (whole_eq c cc0_scratch1 fc).symm) $$ Hcw
  ihave Hccw := (Entails.of_eq (whole_eq c cc0_scratch2 fw).symm) $$ Hccw
  ihave Hcw := (frees_entry (c := c) true fc) $$ [Hcw]
  · isplitr; · iexact HZ
    iexact Hcw
  ihave Hccw := (frees_entry (c := c) false fw) $$ [Hccw]
  · isplitr; · iexact HZ
    iexact Hccw
  -- the entry signals
  unfold owedAll
  iapply (Rounds.wp_signal 𝒱₀ ER (ringRd m ρ) (c : Thread nD τ) none (dst := (prv c : Thread nD τ)) (κ := K (prv c, none))
      (d := true) (by rw [duties_bar]; exact Finset.mem_univ _) ((amount_bar m ρ (prv c) true).trans (by decide)) 0 (owedBar c) rfl)
    $$ [HO HtP Hcw]
  · isplitr; · iapply (inv_at m ρ K (prv c) none); iexact HR
    isplitl [HO]; · iexact HO
    isplitl [HtP]; · iexact HtP
    isplitl [Hcw]
    · rw [payload_bar]; unfold barPay; rw [show step true (prv c) = c from step_step_not true c]; iexact Hcw
    · iexact HrP
  iintro HO
  unfold owedBar
  iapply (Rounds.wp_signal 𝒱₀ ER (ringRd m ρ) (c : Thread nD τ) none (dst := (nxt c : Thread nD τ)) (κ := K (nxt c, none))
      (d := false) (by rw [duties_bar]; exact Finset.mem_univ _) ((amount_bar m ρ (nxt c) false).trans (by decide)) 0 (owed 0 c) rfl)
    $$ [HO HtN Hccw]
  · isplitr; · iapply (inv_at m ρ K (nxt c) none); iexact HR
    isplitl [HO]; · iexact HO
    isplitl [HtN]; · iexact HtN
    isplitl [Hccw]
    · rw [payload_bar]; unfold barPay; rw [show step false (nxt c) = c from step_step_not false c]; iexact Hccw
    · iexact HrN
  iintro HO
  -- the wait for both neighbours
  iapply (Rounds.wp_wait_rest_token 𝒱₀ ER (ringRd m ρ) (c : Thread nD τ) none (κ := K (c, none))
      (wpE_semWait_eq 𝒱₀ (c : Thread nD τ) none Set.univ) (Set.mem_univ _) 0 (O := owed 0 c) (W := Wt) (R := 0) (m := 0) (T := ∅)
      (by rw [expect_bar]; decide)) $$ [HcB HO HatB]
  · isplitr; · iapply (inv_at m ρ K c none); iexact HR
    isplitl [HcB]; · iexact HcB
    isplitl [HO]; · iexact HO
    isplitr; · iapply (mayWait_hop c (.reg barS) 0 0 (by decide) (show 1 < 2 + 0 by decide)); iexact Hlev
    iexact HatB
  iintro ⟨HO, HatB, -, Hpay⟩
  ihave Hpay := (Entails.of_eq (rest_bar m ρ c)) $$ Hpay
  -- the barrier cell closes
  imod (Rounds.cell_close ER (ringRd m ρ) (Set.mem_univ (K (c, none))) (fun h => h) (R := 0 + 1) (fun r hr => duties_bar_late m ρ c r hr)) $$ [HatB] with HzB
  · isplitr; · iapply (inv_at m ρ K c none); iexact HR
    iexact HatB
  -- the two rows, narrowed into the staging buffer
  iapply (wp_load 𝒱₀ (c : Thread nD τ) none Set.univ (m := (Memref.whole cc0_stg3_0 : Memref sig .tc .vmem S2x256x512 .f32)) (Finset.subset_univ _)) $$ Hew
  iintro Hew
  iapply (wp_load 𝒱₀ (c : Thread nD τ) none Set.univ (m := stageM) (Finset.subset_univ _)) $$ Hstage
  iintro Hstage
  iapply (wp_store 𝒱₀ (c : Thread nD τ) none Set.univ (m := stageM) (r := rowR 0) (Mk := Finset.univ) (Finset.subset_univ _)) $$ Hstage
  iintro Hstage
  iapply (wp_load 𝒱₀ (c : Thread nD τ) none Set.univ (m := (Memref.whole cc0_stg3_0 : Memref sig .tc .vmem S2x256x512 .f32)) (Finset.subset_univ _)) $$ Hew
  iintro Hew
  iapply (wp_load 𝒱₀ (c : Thread nD τ) none Set.univ (m := stageM) (Finset.subset_univ _)) $$ Hstage
  iintro Hstage
  iapply (wp_store 𝒱₀ (c : Thread nD τ) none Set.univ (m := stageM) (r := rowR 1) (Mk := Finset.univ) (Finset.subset_univ _)) $$ Hstage
  iintro Hstage
  -- the loads of the other inputs
  iapply (wp_load 𝒱₀ (c : Thread nD τ) none Set.univ (m := (Memref.whole cc0_stg0_0 : Memref sig .tc .vmem S512x256 .f32)) (Finset.subset_univ _)) $$ Hx
  iintro Hx
  rw [show (Memref.whole cc0_stg0_0 : Memref sig .tc .vmem S512x256 .f32).view.readAt (Elt F)
      (Rect.unit (s := S512x256) ![0, 0] S512x256.size inb_S512x256_S512x256_0_0).toLoadRect (xIn m ρ c) = xIn m ρ c from
    Memref.readAt_unit_zero (Elt F) cc0_stg0_0 zero2 _ _]
  iapply (wp_load 𝒱₀ (c : Thread nD τ) none Set.univ (m := (Memref.whole cc0_stg1_0 : Memref sig .tc .vmem S256x32 .f32)) (Finset.subset_univ _)) $$ Hrw
  iintro Hrw
  rw [show (Memref.whole cc0_stg1_0 : Memref sig .tc .vmem S256x32 .f32).view.readAt (Elt F)
      (Rect.unit (s := S256x32) ![0, 0] S256x32.size inb_S256x32_S256x32_0_0).toLoadRect (rwIn m ρ c) = rwIn m ρ c from
    Memref.readAt_unit_zero (Elt F) cc0_stg1_0 zero2 _ _]
  iapply (wp_load 𝒱₀ (c : Thread nD τ) none Set.univ (m := (Memref.whole cc0_stg2_0 : Memref sig .tc .vmem S512x1 .i32)) (Finset.subset_univ _)) $$ Hid
  iintro Hid
  rw [show (Memref.whole cc0_stg2_0 : Memref sig .tc .vmem S512x1 .i32).view.readAt (Elt F)
      (Rect.unit (s := S512x1) ![0, 0] S512x1.size inb_S512x1_S512x1_0_0).toLoadRect (idIn m ρ c) = idIn m ρ c from
    Memref.readAt_unit_zero (Elt F) cc0_stg2_0 zero2 _ _]
  iapply (wp_load 𝒱₀ (c : Thread nD τ) none Set.univ (m := (Memref.whole cc0_stg4_0 : Memref sig .tc .vmem S256x512 .f32)) (Finset.subset_univ _)) $$ Hsw
  iintro Hsw
  rw [show (Memref.whole cc0_stg4_0 : Memref sig .tc .vmem S256x512 .f32).view.readAt (Elt F)
      (Rect.unit (s := S256x512) ![0, 0] S256x512.size inb_S256x512_S256x512_0_0).toLoadRect (swIn m ρ c) = swIn m ρ c from
    Memref.readAt_unit_zero (Elt F) cc0_stg4_0 zero2 _ _]
  -- what the first hop starts from
  ihave Hstage := (show ((stageM.access (rowR 1)).loc (c : Thread nD τ) ↦{fullShare}
      (stageM.access (rowR 1)).write (Elt F) ((stageM.access (rowR 0)).write (Elt F) fs
        (k0_pay2 ((Memref.whole cc0_stg3_0 : Memref sig .tc .vmem S2x256x512 .f32).view.readAt (Elt F)
          (Rect.unit (s := S2x256x512) ![0, 0, 0] S1x256x512.size inb_S2x256x512_S1x256x512_0_0_0).toLoadRect (ewIn m ρ c))) Finset.univ)
        (k0_pay3 ((Memref.whole cc0_stg3_0 : Memref sig .tc .vmem S2x256x512 .f32).view.readAt (Elt F)
          (Rect.unit (s := S2x256x512) ![1, 0, 0] S1x256x512.size inb_S2x256x512_S1x256x512_1_0_0).toLoadRect (ewIn m ρ c))) Finset.univ : sProp 𝕄)
    ⊢ (((c : Thread nD τ).loc cc0_scratch0) ↦{fullShare} staged fs (W m ρ c true) (W m ρ c false)) from .rfl) $$ Hstage
  ihave Hstage := (show (((c : Thread nD τ).loc cc0_scratch0) ↦{fullShare} staged fs (W m ρ c true) (W m ρ c false) : sProp 𝕄)
    ⊢ iprop(owns (c : Thread nD τ) (rowM true) fullShare (sq (W m ρ c true)) ∗ owns (c : Thread nD τ) (rowM false) fullShare (sq (W m ρ c false))) from by
      rw [← whole_eq c cc0_scratch0]
      exact stage_split (staged fs (W m ρ c true) (W m ρ c false)) _ _ (staged_row0 fs _ _) (staged_row1 fs _ _)) $$ Hstage
  icases Hstage with ⟨Hs1, Hs2⟩
  icases Hpay with ⟨Hp1, Hp2⟩
  ihave Htodo := (todo_entry (F := F) c) $$ [Htok Hcr]
  · isplitl [Htok] <;> iassumption
  ihave HI := (hop_entry m ρ K c _) $$ [Hpos Htodo Hp1 Hp2 Hs1 Hs2 HO]
  · isplitr; · iexact HR
    isplitr; · iexact Hlev
    isplitr; · iexact HZ
    isplitl [Hpos]; · iexact Hpos
    isplitl [Htodo]; · iexact Htodo
    isplitl [Hp1]; · iexact Hp1
    isplitl [Hp2]; · iexact Hp2
    isplitl [Hs1]; · iexact Hs1
    isplitl [Hs2]; · iexact Hs2
    iexact HO
  -- the hops
  iapply (wp_hop_first m ρ K (c := c) _ _ (Fin.ext (k0_dev3_eq c)) (Fin.ext (k0_dev4_eq c))) $$ HI
  iintro HI
  iapply (wp_hop m ρ K (c := c) 0 (by decide) _ _ (Fin.ext (k0_dev5_eq c)) (Fin.ext (k0_dev6_eq c))) $$ HI
  iintro HI
  iapply (wp_hop m ρ K (c := c) 1 (by decide) _ _ (Fin.ext (k0_dev7_eq c)) (Fin.ext (k0_dev8_eq c))) $$ HI
  iintro HI
  iapply (wp_hop m ρ K (c := c) 2 (by decide) _ _ (Fin.ext (k0_dev9_eq c)) (Fin.ext (k0_dev10_eq c))) $$ HI
  iintro HI
  iapply (wp_hop m ρ K (c := c) 3 (by decide) _ _ (Fin.ext (k0_dev11_eq c)) (Fin.ext (k0_dev12_eq c))) $$ HI
  iintro HI
  iapply (wp_hop m ρ K (c := c) 4 (by decide) _ _ (Fin.ext (k0_dev13_eq c)) (Fin.ext (k0_dev14_eq c))) $$ HI
  iintro HI
  iapply (wp_hop m ρ K (c := c) 5 (by decide) _ _ (Fin.ext (k0_dev15_eq c)) (Fin.ext (k0_dev16_eq c))) $$ HI
  iintro HI
  iapply (wp_hop m ρ K (c := c) 6 (by decide) _ _ (Fin.ext (k0_dev17_eq c)) (Fin.ext (k0_dev18_eq c))) $$ HI
  iintro HI
  iapply (wp_hop m ρ K (c := c) 7 (by decide) _ _ (Fin.ext (k0_dev19_eq c)) (Fin.ext (k0_dev20_eq c))) $$ HI
  iintro HI
  iapply (wp_hop m ρ K (c := c) 8 (by decide) _ _ (Fin.ext (k0_dev21_eq c)) (Fin.ext (k0_dev22_eq c))) $$ HI
  iintro HI
  iapply (wp_hop m ρ K (c := c) 9 (by decide) _ _ (Fin.ext (k0_dev23_eq c)) (Fin.ext (k0_dev24_eq c))) $$ HI
  iintro HI
  iapply (wp_hop m ρ K (c := c) 10 (by decide) _ _ (Fin.ext (k0_dev25_eq c)) (Fin.ext (k0_dev26_eq c))) $$ HI
  iintro HI
  iapply (wp_hop m ρ K (c := c) 11 (by decide) _ _ (Fin.ext (k0_dev27_eq c)) (Fin.ext (k0_dev28_eq c))) $$ HI
  iintro HI
  iapply (wp_hop m ρ K (c := c) 12 (by decide) _ _ (Fin.ext (k0_dev29_eq c)) (Fin.ext (k0_dev30_eq c))) $$ HI
  iintro HI
  iapply (wp_hop m ρ K (c := c) 13 (by decide) _ _ (Fin.ext (k0_dev31_eq c)) (Fin.ext (k0_dev32_eq c))) $$ HI
  iintro HI
  -- after the last hop: the loads of the last blocks
  unfold HopInv
  icases HI with ⟨-, -, Hpos, -, -, ⟨Hm1, Hm2⟩, ⟨Hs1, -⟩, ⟨Hs2, -⟩, Hrows, ⟨%Wt', HO⟩⟩
  ihave Hs1 := (show (owns (c : Thread nD τ) (srcM true 15) fullShare (sq (blk m ρ true 15 c)) : sProp 𝕄)
    ⊢ owns (c : Thread nD τ) (slotM true 15) fullShare (sq (blk m ρ true 15 c)) from .rfl) $$ Hs1
  iapply (wp_load_slot true 15 c (blk m ρ true 15 c) fullShare (by exact rfl) (by exact rfl)) $$ Hs1
  iintro Hs1
  ihave Hs2 := (show (owns (c : Thread nD τ) (srcM false 15) fullShare (sq (blk m ρ false 15 c)) : sProp 𝕄)
    ⊢ owns (c : Thread nD τ) (slotM false 15) fullShare (sq (blk m ρ false 15 c)) from .rfl) $$ Hs2
  iapply (wp_load_slot false 15 c (blk m ρ false 15 c) fullShare (by exact rfl) (by exact rfl)) $$ Hs2
  iintro Hs2
  -- and the store of the result
  iapply (wp_load 𝒱₀ (c : Thread nD τ) none Set.univ (m := (Memref.whole cc0_stg5_0 : Memref sig .tc .vmem S512x512 .f32)) (Finset.subset_univ _)) $$ Hout
  iintro Hout
  iapply (wp_store 𝒱₀ (c : Thread nD τ) none Set.univ (m := (Memref.whole cc0_stg5_0 : Memref sig .tc .vmem S512x512 .f32))
    (r := Rect.unit (s := S512x512) ![0, 0] S512x512.size inb_S512x512_S512x512_0_0) (Mk := Finset.univ) (Finset.subset_univ _)) $$ Hout
  iintro Hout
  rw [write_out]
  imod (cells_close m ρ K c) $$ [Hpos] with Hz
  · isplitr; · iexact HR
    iexact Hpos
  rw [wp_ret]; imodintro
  iapply Hk
  unfold bodyPost Φ₁ Dat.owesAt Pipeline.owesWithin
  rw [show (dats m ρ 0 c).owed t0_0.succ = 0 from rfl]
  isplitl [Hm1 Hm2 Hs1 Hs2 Hrows Hz HzB]
  · isplitl [Hm1 Hm2 Hs1 Hs2 Hrows]
    · iapply (scratches_exit m ρ c)
      isplitl [Hrows]; · iexact Hrows
      isplitl [Hm1 Hs1]
      · isplitl [Hm1]; · iexact Hm1
        iexact Hs1
      · isplitl [Hm2]; · iexact Hm2
        iexact Hs2
    isplitl [Hz]; · iexact Hz
    iexact HzB
  isplitl [HO]
  · iexists Wt'
    isplitr; · ipureintro; exact fun _ _ => Or.inl trivial
    rw [owed_end]; iexact HO
  isplitl [Hx]
  · iexists _; isplitr; · (ipureintro; rfl)
    iexact Hx
  isplitl [Hrw]
  · iexists _; isplitr; · (ipureintro; rfl)
    iexact Hrw
  isplitl [Hid]
  · iexists _; isplitr; · (ipureintro; rfl)
    iexact Hid
  isplitl [Hew]
  · iexists _; isplitr; · (ipureintro; rfl)
    iexact Hew
  isplitl [Hsw]
  · iexists _; isplitr; · (ipureintro; rfl)
    iexact Hsw
  iexists _
  isplitr; swap; · iexact Hout
  ipureintro
  rfl
-- ==== Proof.Launch.lean ====
/-
# The launch

Everything the sixteen kernels start from, dealt out at launch: the rounds' positions and tokens, the credits of the
waits; and the run of the whole program from it.
-/
module

public import proofs.«01_k».proof.Proof.Body
public import Idealize.ShloMosaic.Lib.Pipeline.CollectiveSegs

@[expose] public section

noncomputable section

namespace Cert.MoeRing

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellOf)

variable {F : FTy → Type} [FloatOps F]

local notation "𝕄" => MT nD τ sig ℕ (Elt F) ℕ AllU ℕ

variable (m : (ℓ : Loc nD τ sig) → Buf (Elt F) ℓ) (ρ : Dev nD → PrngReg)

/-! ## The pipeline's one point -/

def bodyPre' (c : Dev nD) : sProp 𝕄 :=
  iprop(Φ₀ m ρ c ∗ (dats m ρ 0 c).owesAt 0 t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

set_option maxRecDepth 8000 in
/-- The body meets the pipeline's obligation on device `c`. -/
theorem body_obligation (c : Dev nD) : BodyObligation (dats (F := F) m ρ 0 c) (defs₀ (F := F)) 𝒱₀ 0 Set.univ := fun t => by
  rw [fin_N0 t]
  rw [bigSep_W, bigSep_W]
  simp only [owns_whole_eq]
  show bodyPre' m ρ c ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6) (fun _ => bodyPost m ρ c)
  unfold bodyPre' Φ₀ start
  iintro ⟨⟨⟨⟨%K, Hg⟩, Hcr, Hlev⟩, Hscr⟩, Hrest⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    iexact Hrest
  · iintro H; iexact H

/-! ## The cells and the tokens -/

theorem ownSemFacts : Pipeline.OwnSemFacts cfg0.spec osem := by decide

theorem share_eq (c : Dev nD) (w : Fin cfg0.W) : (dats m ρ 0 c).share w = fullShare := by unfold Dat.share; split <;> rfl

theorem csem_inj : Function.Injective csem := by
  rintro (_ | a) (_ | b) h
  · rfl
  · exact absurd h (fun h => by cases h)
  · exact absurd h (fun h => by cases h)
  · exact congrArg some (osem_inj h)

theorem kcell_inj : Function.Injective (kcell : Dev nD × Cx → GSem nD τ sig) := by
  rintro ⟨c, k⟩ ⟨c', k'⟩ h
  have h1 : c = c' := congrArg (fun g : GSem nD τ sig => g.1.1) h
  have h2 : k = k' := csem_inj (congrArg Prod.snd h)
  rw [h1, h2]
def ringCells : Finset (GSem nD τ sig) := Finset.univ.map ⟨kcell, kcell_inj⟩

/-- The duties at a device's own cells: the barrier's two, and those of each hop's departure and landing, by direction. -/
abbrev Tx : Type := Bool ⊕ (Fin 15 × Bool × Bool)

abbrev tokOf (ct : Dev nD × Tx) : GSem nD τ sig × ℕ × Bool := match ct.2 with
  | .inl b => (barCell ct.1, 0, b)
  | .inr (i, a, dd) => (ownCell ct.1 (if a then recvK dd i.val else sendK dd i.val), i.val / 4, false)

theorem own_hop_inj {i j : ℕ} {a b dd ee : Bool} (h : (if a then recvK dd i else sendK dd i) = (if b then recvK ee j else sendK ee j))
    (hr : i / 4 = j / 4) : i = j ∧ a = b ∧ dd = ee := by
  have key : ∀ (a dd : Bool) (i : ℕ), (if a then recvK dd i else sendK dd i) = (a, dd, if a then slot (i + 1) else slot i) := by
    intro a dd i; cases a <;> rfl
  rw [key, key] at h
  have h1 : a = b := congrArg Prod.fst h
  have h2 : dd = ee := congrArg (fun k : Own => k.2.1) h
  subst h1 h2
  have h3 := congrArg (fun k : Own => k.2.2.val) h
  refine ⟨?_, rfl, rfl⟩
  cases a
  · have : i % 4 = j % 4 := h3
    omega
  · have : (i + 1) % 4 = (j + 1) % 4 := h3
    omega

theorem tokOf_inj : Function.Injective (tokOf : Dev nD × Tx → GSem nD τ sig × ℕ × Bool) := by
  rintro ⟨c, t⟩ ⟨c', t'⟩ h
  rcases t with b | ⟨i, a, dd⟩ <;> rcases t' with b' | ⟨j, b, ee⟩
  · have h1 : c = c' := congrArg (fun x : GSem nD τ sig × ℕ × Bool => x.1.1.1) h
    have h2 : b = b' := congrArg (fun x : GSem nD τ sig × ℕ × Bool => x.2.2) h
    rw [h1, h2]
  · exact absurd (congrArg (fun x : GSem nD τ sig × ℕ × Bool => x.1.2) h) (fun h => by cases h)
  · exact absurd (congrArg (fun x : GSem nD τ sig × ℕ × Bool => x.1.2) h) (fun h => by cases h)
  · have h1 : c = c' := congrArg (fun x : GSem nD τ sig × ℕ × Bool => x.1.1.1) h
    have h2 := osem_inj (congrArg (fun x : GSem nD τ sig × ℕ × Bool => x.1.2) h)
    have h3 : i.val / 4 = j.val / 4 := congrArg (fun x : GSem nD τ sig × ℕ × Bool => x.2.1) h
    obtain ⟨h4, h5, h6⟩ := own_hop_inj h2 h3
    rw [h1, Fin.ext h4, h5, h6]
def ringToks : Finset (GSem nD τ sig × ℕ × Bool) := Finset.univ.map ⟨tokOf, tokOf_inj⟩

def u₀ : AllU :=
  (initOf (Pipeline.cells cfgs cellOf_inj) (Pipeline.launchToks cfgs cellOf_inj), initOf ringCells ringToks)

/-- The tokens of device `c`'s own cells. -/
def toks (c : Dev nD) : sProp 𝕄 :=
  iprop((dutyTok ER (barCell c) 0 true ∗ dutyTok ER (barCell c) 0 false)
    ∗ bigSep (Finset.Ico 0 15) fun i =>
        iprop((dutyTok ER (sendCell c true i) (i / 4) false ∗ dutyTok ER (recvCell c true i) (i / 4) false)
          ∗ (dutyTok ER (sendCell c false i) (i / 4) false ∗ dutyTok ER (recvCell c false i) (i / 4) false)))

/-- What each device is dealt at first, -/
def G (c : Dev nD) : sProp 𝕄 :=
  iprop((bigSep Finset.univ fun x : Cx => roundState ER (ringRd m ρ) (kcell (c, x)) 0)
    ∗ (bigSep Finset.univ fun x : Cx => iprop(atPos ER (kcell (c, x)) 0 ∅ 0 ∗ reached ER (kcell (c, x)) 0)) ∗ toks c)
/-- and what it has once all of them have agreed on the cells. -/
def G' (c : Dev nD) : sProp 𝕄 := iprop(∃ K, ghost m ρ K c)

theorem bigSep_pair (Φ : Bool → sProp 𝕄) : bigSep Finset.univ Φ = iprop(Φ true ∗ Φ false) :=
  bigSep_univ_eq_bigSepL [true, false] (by decide) (by decide) Φ

theorem bigSep_hops (Φ : ℕ → sProp 𝕄) : (bigSep Finset.univ fun i : Fin 15 => Φ i.val) = bigSep (Finset.Ico 0 15) Φ := by
  rw [show Finset.Ico 0 15 = (Finset.univ : Finset (Fin 15)).map Fin.valEmbedding from by decide, bigSep_map]; rfl

/-- Over a device's cells: the barrier's, and the kernel's own. -/
theorem bigSep_cells (Φ : Cx → sProp 𝕄) : bigSep Finset.univ Φ = iprop(Φ none ∗ bigSep Finset.univ fun k : Own => Φ (some k)) := by
  rw [show (Finset.univ : Finset Cx) = insert none (Finset.univ.map ⟨some, Option.some_injective Own⟩) from by
    ext x; cases x <;> simp, bigSep_insert (by simp), bigSep_map]
  rfl

theorem toks_eq (c : Dev nD) :
    (bigSep Finset.univ fun t : Tx => (dutyTok ER (tokOf (c, t)).1 (tokOf (c, t)).2.1 (tokOf (c, t)).2.2 : sProp 𝕄)) ⊢ toks c := by
  unfold toks
  rw [bigSep_univ_sum, bigSep_pair, bigSep_univ_prod, ← bigSep_hops]
  refine sep_mono_right (bigSep_mono fun i _ => ?_)
  rw [bigSep_univ_prod, bigSep_pair, bigSep_pair, bigSep_pair]
  show BIBase.Entails (PROP := sProp 𝕄) _ _
  iintro ⟨⟨H1, H2⟩, H3, H4⟩
  isplitl [H1 H3]
  · isplitl [H3]; · iexact H3
    iexact H1
  · isplitl [H4]; · iexact H4
    iexact H2

/-- The launch element, dealt to the devices. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun x : Cx => Φ (kcell (c, x)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    exact bigSep_mono fun c _ => toks_eq c
  iintro HX
  imod (Rounds.fund ER (ringRd m ρ) ringCells ringToks) $$ HX with ⟨Hst, Hr, Hat, Htok⟩
  imodintro
  ihave Hst := (Entails.of_eq (hX fun g => roundState ER (ringRd m ρ) g 0)) $$ Hst
  ihave Hat := (Entails.of_eq (hX fun g => atPos ER g 0 ∅ 0)) $$ Hat
  ihave Hr := (Entails.of_eq (hX fun g => reached ER g 0)) $$ Hr
  ihave Htok := hT $$ Htok
  unfold G; simp only [bigSep_sep']
  isplitl [Hst]; · iexact Hst
  isplitl [Hat Hr]
  · isplitl [Hat]; · iexact Hat
    iexact Hr
  iexact Htok

/-! ## The devices agree -/

/-- A device's counters at zero are its cells'. -/
theorem counters_eq (c : Dev nD) :
    iprop(Pipeline.ownSems0 (Ix := ℕ) (Name := ℕ) (U := AllU) (Lvl := ℕ) (Val := Elt F) (τ := τ) osem c ∗ unscopedSems0 c)
      ⊢ (bigSep Finset.univ fun x : Cx => semVal (kcell (c, x)) 0 : sProp 𝕄) := by
  rw [bigSep_cells]
  unfold Pipeline.ownSems0 unscopedSems0
  rw [bigSep_eq_bigSepL_of_eq [SemLoc.reg barS] (by decide) (by decide), bigSepL_singleton]
  iintro ⟨H1, H2⟩
  isplitl [H2]; · iexact H2
  iexact H1

/-- Every device's cells get their invariants, -/
theorem core_alloc (c : Dev nD) :
    iprop(Pipeline.ownSems0 (Ix := ℕ) (Name := ℕ) (U := AllU) (Lvl := ℕ) (Val := Elt F) (τ := τ) osem c ∗ unscopedSems0 c ∗ G m ρ c)
      ⊢ |={Set.univ}=> iprop((bigSep Finset.univ fun x => iprop(∃ κ : ℕ, cellInv ER (ringRd m ρ) κ (kcell (c, x))))
          ∗ (bigSep Finset.univ fun x => iprop(atPos ER (kcell (c, x)) 0 ∅ 0 ∗ reached ER (kcell (c, x)) 0)) ∗ toks c) := by
  unfold G
  iintro ⟨Hos, Hus, Hst, Hat, Htok⟩
  ihave Hv := (counters_eq (F := F) c) $$ [Hos Hus]
  · isplitl [Hos] <;> iassumption
  imod (show iprop((bigSep Finset.univ fun x : Cx => semVal (kcell (c, x)) 0) ∗ bigSep Finset.univ fun x : Cx => roundState ER (ringRd m ρ) (kcell (c, x)) 0)
      ⊢ (|={Set.univ}=> bigSep Finset.univ fun x => iprop(∃ κ : ℕ, cellInv ER (ringRd m ρ) κ (kcell (c, x))) : sProp 𝕄) from by
        rw [← bigSep_sep']
        exact (bigSep_mono fun x _ => (Rounds.body_intro ER (ringRd m ρ) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

/-- That round 0 of every cell has begun. -/
def begun : sProp 𝕄 := bigSep Finset.univ fun ck : Dev nD × Cx => reached ER (kcell ck) 0
instance begun_persistent : BI.Persistent (begun (F := F)) := by unfold begun; infer_instance
theorem begun_at (ck : Dev nD × Cx) : (begun (F := F)) ⊢ reached ER (kcell ck) 0 := by
  unfold begun; exact bigSep_elim (Finset.mem_univ ck)

/-- the tokens go round the ring to whoever pays the duty, -/
theorem toks_around : (bigSep Finset.univ fun c : Dev nD => (toks c : sProp 𝕄)) ⊢ bigSep Finset.univ fun c : Dev nD => payToks c := by
  unfold toks payToks
  simp only [bigSep_sep']
  rw [bigSep_univ_equiv (around false) (fun c : Dev nD => (dutyTok ER (barCell c) 0 true : sProp 𝕄)),
    bigSep_univ_equiv (around true) (fun c : Dev nD => (dutyTok ER (barCell c) 0 false : sProp 𝕄)),
    bigSep_univ_equiv (around true) (fun c : Dev nD => (bigSep (Finset.Ico 0 15) fun i => dutyTok ER (recvCell c true i) (i / 4) false : sProp 𝕄)),
    bigSep_univ_equiv (around false) (fun c : Dev nD => (bigSep (Finset.Ico 0 15) fun i => dutyTok ER (recvCell c false i) (i / 4) false : sProp 𝕄))]
  iintro ⟨⟨H1, H2⟩, ⟨H3, H4⟩, H5, H6⟩
  isplitl [H1]; · iexact H1
  isplitl [H2]; · iexact H2
  isplitl [H3 H4]
  · isplitl [H3]; · iexact H3
    iexact H4
  · isplitl [H5]; · iexact H5
    iexact H6

/-- and each device has what its kernel starts from. -/
theorem ghost_intro (K : Dev nD × Cx → ℕ) (c : Dev nD) :
    iprop((recs m ρ K ∗ begun) ∗ (bigSep Finset.univ fun x : Cx => atPos ER (kcell (c, x)) 0 ∅ 0) ∗ payToks c) ⊢ G' m ρ c := by
  unfold G' ghost
  rw [bigSep_cells]
  iintro ⟨⟨#HR, #HB⟩, ⟨Hbar, Hown⟩, Htok⟩
  iexists K
  isplitr; · iexact HR
  isplitl [Hown]
  · unfold posns
    simp only [pos_zero]
    iapply (bigSep_under (R := begun (F := F)) (S := Finset.univ) (Φ := fun k : Own => atPos ER (ownCell c k) 0 ∅ 0)
      (Ψ := fun k : Own => at_ (F := F) c k 0) fun k _ => by
        show BIBase.Entails (PROP := sProp 𝕄) _ _
        iintro ⟨#HB, H⟩
        isplitl [H]; · iexact H
        iapply (begun_at (c, some k)); iexact HB)
    isplitr; · iexact HB
    iexact Hown
  isplitl [Hbar]; · iexact Hbar
  isplitr; · iapply (begun_at (prv c, none)); iexact HB
  isplitr; · iapply (begun_at (nxt c, none)); iexact HB
  iexact Htok

theorem regroup :
    (bigSep Finset.univ fun c : Dev nD => iprop((bigSep Finset.univ fun x => iprop(∃ κ : ℕ, cellInv ER (ringRd m ρ) κ (kcell (c, x))))
          ∗ (bigSep Finset.univ fun x => iprop(atPos ER (kcell (c, x)) 0 ∅ 0 ∗ reached ER (kcell (c, x)) 0)) ∗ toks c) : sProp 𝕄)
      ⊢ bigSep Finset.univ (G' m ρ) := by
  rw [bigSep_sep', bigSep_sep', ← bigSep_univ_prod (fun ck : Dev nD × Cx => iprop(∃ κ : ℕ, cellInv ER (ringRd m ρ) κ (kcell ck))),
    bigSep_congr (s := Finset.univ) (fun (c : Dev nD) _ => bigSep_sep' Finset.univ (fun x : Cx => (atPos ER (kcell (c, x)) 0 ∅ 0 : sProp 𝕄)) (fun x => reached ER (kcell (c, x)) 0)),
    bigSep_sep', ← bigSep_univ_prod (fun ck : Dev nD × Cx => (reached ER (kcell ck) 0 : sProp 𝕄))]
  iintro ⟨HI, ⟨Hat, #HB⟩, Htok⟩
  ihave HK := (BI.bigSep_exists_pi Finset.univ (fun (ck : Dev nD × Cx) (κ : ℕ) => (cellInv ER (ringRd m ρ) κ (kcell ck) : sProp 𝕄))) $$ HI
  icases HK with ⟨%K, #HI⟩
  ihave Htk := (toks_around (F := F)) $$ Htok
  iapply (bigSep_under (R := iprop(recs m ρ K ∗ begun)) fun c _ => ghost_intro m ρ K c)
  isplitr
  · unfold recs begun; isplitl; · iexact HI
    iexact HB
  · rw [bigSep_sep']
    isplitl [Hat]; · iexact Hat
    iexact Htk

theorem glob : (bigSep Finset.univ fun c => iprop(Pipeline.ownSems0 (Ix := ℕ) (Name := ℕ) (U := AllU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

/-- What all devices owe device `c` is the credit of its waits. -/
theorem creds (c : Dev nD) : (Pipeline.launchCred owedAll c : sProp 𝕄) ⊢ credits c := by
  have hT (c : Dev nD) : nxt (prv c) = c := step_step_not true c
  have hF (c : Dev nD) : prv (nxt c) = c := step_step_not false c
  have h0 : (Pipeline.launchCred (fun d => owed 0 d) c : sProp 𝕄)
      ⊢ bigSep (Finset.Ico 0 15) fun i => iprop(cred (tallyAt (recvCell c true i) i N) ∗ cred (tallyAt (recvCell c false i) i N)) := by
    unfold owed
    rw [Pipeline.launchCred_sum]
    refine bigSep_mono fun i _ => ?_
    rw [Pipeline.launchCred_add]
    show BIBase.Entails (PROP := sProp 𝕄) _ _
    iintro ⟨H1, H2⟩
    isplitl [H2]
    · iapply (Pipeline.launchCred_tallyAt (osem (recvK true i)) nxt prv hT hF i N c); iexact H2
    · iapply (Pipeline.launchCred_tallyAt (osem (recvK false i)) prv nxt hF hT i N c); iexact H1
  rw [show (owedAll : Dev nD → CellTallies nD τ sig ℕ) = fun d => (owed 0 d + tallyAt (barCell (nxt d)) 0 1) + tallyAt (barCell (prv d)) 0 1 from rfl,
    Pipeline.launchCred_add (fun d => owed 0 d + tallyAt (barCell (nxt d)) 0 1), Pipeline.launchCred_add (fun d => owed 0 d)]
  unfold credits
  iintro ⟨⟨H0, H1⟩, H2⟩
  ihave H1 := (Pipeline.launchCred_tallyAt (SemLoc.reg barS) nxt prv hT hF 0 1 c) $$ H1
  ihave H2 := (Pipeline.launchCred_tallyAt (SemLoc.reg barS) prv nxt hF hT 0 1 c) $$ H2
  isplitl [H1 H2]
  · rw [show (tallyAt (barCell c) 0 2 : CellTallies nD τ sig ℕ) = tallyAt (barCell c) 0 1 + tallyAt (barCell c) 0 1 from
      (tallyAt_add (barCell c) 0 1 1).symm]
    iapply (cred_add _ _).2
    isplitl [H1] <;> iassumption
  · iapply h0; iexact H0

/-! ## The run -/

theorem start_intro (c : Dev nD) :
    iprop(Pipeline.unscopedRestP Pipeline.Prefetch.none cfg0.spec c (fun b => m ((c : Thread nD τ).loc b)) ∗ levAts L lv
        ∗ Pipeline.launchCred owedAll c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁ zeros Pipeline.ownSems0 unscopedSems0
  rw [bigSep_eq_bigSepL_of_eq [SemLoc.reg barS] (by decide) (by decide), bigSepL_singleton]
  iintro ⟨Hr, Hz, HzB⟩
  isplitl [HzB]; · iexact HzB
  isplitl [Hz]; · iexact Hz
  iexact Hr

theorem waits (c : Dev nD) : (levAts L lv : sProp 𝕄) ⊢ Pipeline.cellsWaits cfgs (dats m ρ) 0 0 c :=
  Pipeline.cellsWaits_intro cfgs (dats m ρ) 0 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with the counters at zero, for any float values: the sixteen kernels terminate, each device's arrays
    end at the computed contents, every counter at zero. -/
theorem run_main : θ_run defs (onTc (τ := τ) (main (F := F))) (st₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owedAll) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.MoeRing

end
-- ==== Proof.Frames.lean ====
/-
# The kernel's frames

The run of the kernel leaves its arguments unchanged and the counters at zero, at either reading of its text.
-/
module

public import proofs.«01_k».proof.Defs
public import proofs.«01_k».proof.Proof.Gen.Kernel
public import proofs.«01_k».proof.Proof.Launch

@[expose] public section

noncomputable section

namespace Cert.MoeRing

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- An input's array ends as it began. -/
theorem finalA_in (c : Dev nD) (w : Fin cfg0.W) (h : (cfg0.win w).isOut = false) :
    finalA m ρ c w = (st₀ m ρ).mem ((cfg0.win w).arr.view.loc (c : Thread nD τ)) :=
  (dats m ρ 0 c).arrAt_in w h _

/-- After the run the five arguments are as before. -/
theorem kept (r : PUnit × MemSt nD τ sig (Elt F)) (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h c (0 : Fin 6)).trans (finalA_in m ρ c (0 : Fin 6) rfl), (h c (1 : Fin 6)).trans (finalA_in m ρ c (1 : Fin 6) rfl),
    (h c (2 : Fin 6)).trans (finalA_in m ρ c (2 : Fin 6) rfl), (h c (3 : Fin 6)).trans (finalA_in m ρ c (3 : Fin 6) rfl),
    (h c (4 : Fin 6)).trans (finalA_in m ρ c (4 : Fin 6) rfl)⟩

/-- The run, for any float values. -/
theorem frame_any : θ_run defs (onTc (τ := τ) (main (F := F))) (st₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => kept m ρ r h.1 c, h.2⟩) (run_main m ρ)

/-- The program as printed runs the same kernel as the idealized one. -/
theorem body_same : (Cert.Kernel.defs₀ (F := F)) = (Cert.KernelIdeal.defs₀ (F := F)) := by
  unfold Cert.Kernel.defs₀ Cert.KernelIdeal.defs₀
  refine congrArg Defs.onTc (funext fun l => ?_)
  match l with
  | 0 => rfl
theorem defs_same : (Cert.Kernel.defs (F := F)) = (Cert.KernelIdeal.defs (F := F)) :=
  congrArg (Pipeline.defs Cert.KernelIdeal.pcfgs) body_same

theorem frame_ideal : Cert.quiescent_KernelIdeal := fun m ρ _ => frame_any (F := Ideal) m ρ

theorem frame_kernel : Cert.quiescent_Kernel := fun m ρ _ => by
  rw [defs_same]; exact frame_any (F := Bits) m ρ

end Cert.MoeRing

end
-- ==== Proof.RefFrame.lean ====
/-
# The reference's frame

The reference runs host operations only: it has no counters, and writes none of its arguments.
-/
module

public import proofs.«01_k».proof.Defs
public import proofs.«01_k».proof.Proof.Gen.ReferenceIdeal.Run

@[expose] public section

namespace Cert.MoeRing

open Cert.ReferenceIdeal
open Idealize.ShloMosaic Idealize.ShloMosaic.TcCoe Idealize.SL.Sem

theorem frame_reference : Cert.quiescent_ReferenceIdeal := fun m ρ _ =>
  (θ_run defs _ _).mono
    (fun r h => ⟨fun c => (h c).2, funext fun s => by
      rcases s with ⟨_, s⟩
      rcases s with s | s
      all_goals exact (Nat.not_lt_zero _ s.isLt).elim⟩)
    (Value.run (F := Ideal) m ρ)

end Cert.MoeRing
-- ==== Proof.Rows.lean ====
/-
# One entry of the result

One token is a row `x` of 256 numbers; `r` is the router's matrix, `s` a column of the shared weights, `w` for each expert
the same column of that expert's weights, and `i` the number of the expert the token is routed to. An entry of the result
is the shared product plus the product of the chosen expert, weighted by its softmax probability. This module states it,
as a sum over all experts, and the two ways of selecting the chosen one that the programs use.
-/
module

public import Idealize.ShloMosaic.Lib.Pointwise

@[expose] public section

noncomputable section

namespace Cert.MoeRing

open Idealize.ShloMosaic

section Row
variable (x : Fin 256 → EReal) (r : Fin 256 → Fin 32 → EReal)

def score (e : Fin 32) : EReal := ∑ k, x k * r k e
def top : EReal := Finset.fold max (Ideal.ofBits .f32 0xFF800000#32) (score x r) Finset.univ
def weight (e : Fin 32) : EReal := Ideal.exp (score x r e - top x r)
def prob (e : Fin 32) : EReal := Ideal.div (weight x r e) (∑ e', weight x r e')

/-- What expert `e` adds to a token routed to expert `i`. -/
def share (w : Fin 32 → Fin 256 → EReal) (i : BitVec 32) (e : Fin 32) : EReal :=
  if i = BitVec.ofNat 32 e.val then prob x r e * ∑ k, x k * w e k else 0

/-- The entry. -/
def entry (s : Fin 256 → EReal) (w : Fin 32 → Fin 256 → EReal) (i : BitVec 32) : EReal :=
  (∑ k, x k * s k) + ∑ e, share x r w i e

end Row

/-- One where two words are equal, zero elsewhere, as the kernel computes it. -/
def ind (a b : BitVec 32) : EReal := FloatOps.sitofp (F := Ideal) .f32 (BitVec.setWidth 32 (IntOp.cmpi .eq a b))

theorem ind_self (a : BitVec 32) : ind a a = 1 := by
  have h : IntOp.cmpi .eq a a = 1#1 := IntOp.cmpi_eq_self a
  unfold ind
  rw [h]
  show (((1 : ℤ) : ℝ) : EReal) = 1
  norm_num

theorem ind_of_ne {a b : BitVec 32} (h : a ≠ b) : ind a b = 0 := by
  have h : IntOp.cmpi .eq a b = 0#1 := by
    show BitVec.ofBool (a == b) = 0#1
    rw [beq_false_of_ne h]; rfl
  unfold ind
  rw [h]
  show (((0 : ℤ) : ℝ) : EReal) = 0
  norm_num

theorem word_inj {a b : Fin 32} (h : BitVec.ofNat 32 a.val = BitVec.ofNat 32 b.val) : a = b := by
  revert h; revert a b; decide

/-- The gate, a sum over all experts, is the probability of the chosen one. -/
theorem gate_of_chosen (p : Fin 32 → EReal) (e : Fin 32) :
    (∑ e', p e' * ind (BitVec.ofNat 32 e'.val) (BitVec.ofNat 32 e.val)) = p e := by
  rw [Finset.sum_eq_single e, ind_self, mul_one]
  · intro b _ hb
    rw [ind_of_ne (fun h => hb (word_inj h)), mul_zero]
  · exact fun h => absurd (Finset.mem_univ e) h

/-- The kernel's term for expert `e`: the gate, times whether `e` is the chosen one, times the product. -/
theorem share_gated (x : Fin 256 → EReal) (r : Fin 256 → Fin 32 → EReal) (w : Fin 32 → Fin 256 → EReal) (i : BitVec 32) (e : Fin 32) :
    (∑ e', prob x r e' * ind (BitVec.ofNat 32 e'.val) i) * ind i (BitVec.ofNat 32 e.val) * (∑ k, x k * w e k) = share x r w i e := by
  unfold share
  by_cases h : i = BitVec.ofNat 32 e.val
  · rw [if_pos h, h, gate_of_chosen, ind_self, mul_one]
  · rw [if_neg h, ind_of_ne h, mul_zero, zero_mul]

/-- The reference's term for expert `e`: the weighted product where `e` is the chosen one, zero elsewhere. -/
theorem share_selected (x : Fin 256 → EReal) (r : Fin 256 → Fin 32 → EReal) (w : Fin 32 → Fin 256 → EReal) (i : BitVec 32) (e : Fin 32) :
    Scalar.select (IntOp.cmpi .eq i (BitVec.ofNat 32 e.val)) (prob x r e * ∑ k, x k * w e k) 0 = share x r w i e := by
  unfold share
  by_cases h : i = BitVec.ofNat 32 e.val
  · rw [if_pos h, h, IntOp.cmpi_eq_self]; rfl
  · have h' : IntOp.cmpi .eq i (BitVec.ofNat 32 e.val) = 0#1 := by
      show BitVec.ofBool (i == _) = 0#1
      rw [beq_false_of_ne h]; rfl
    rw [if_neg h, h']; rfl

/-! ## The experts in the kernel's order -/

/-- The device whose block of direction `dd` has come to device `c` by hop `h`. -/
def owner (c : Fin 16) (h : ℕ) : Bool → Fin 16
  | true => ⟨(c.val + 15 * h) % 16, Nat.mod_lt _ (by decide)⟩
  | false => ⟨(c.val + h) % 16, Nat.mod_lt _ (by decide)⟩

/-- The expert that block `dd` of device `d` belongs to: a device has two experts, the first travels one way, the second
    the other way. -/
def expertOf (d : Fin 16) : Bool → Fin 32
  | true => ⟨2 * d.val, by omega⟩
  | false => ⟨2 * d.val + 1, by omega⟩

theorem owner_bijective (c : Fin 16) (dd : Bool) : Function.Bijective fun h : Fin 16 => owner c h.val dd := by
  refine Finite.injective_iff_bijective.mp fun a b hab => ?_
  have := congrArg Fin.val hab
  cases dd <;> (dsimp only [owner] at this; apply Fin.ext; omega)

theorem sum_owner (c : Fin 16) (dd : Bool) (f : Fin 16 → EReal) : (∑ h : Fin 16, f (owner c h.val dd)) = ∑ d, f d :=
  (owner_bijective c dd).sum_comp f

theorem sum_experts (f : Fin 32 → EReal) : (∑ e, f e) = ∑ d : Fin 16, (f (expertOf d true) + f (expertOf d false)) := by
  let eq : Fin 16 × Bool ≃ Fin 32 := Equiv.ofBijective (fun p => expertOf p.1 p.2) ((Fintype.bijective_iff_injective_and_card _).mpr
    ⟨by decide, by decide⟩)
  rw [← eq.sum_comp f, Fintype.sum_prod_type]
  exact Finset.sum_congr rfl fun d _ => Fintype.sum_bool _

/-- Over all hops each device meets every expert once. -/
theorem sum_hops (c : Fin 16) (f : Fin 32 → EReal) :
    (∑ h ∈ Finset.range 16, (f (expertOf (owner c h true) true) + f (expertOf (owner c h false) false))) = ∑ e, f e := by
  rw [sum_experts, Finset.sum_range, Finset.sum_add_distrib, Finset.sum_add_distrib,
    sum_owner c true (fun d => f (expertOf d true)), sum_owner c false (fun d => f (expertOf d false))]

end Cert.MoeRing

end
-- ==== Proof.Value.lean ====
/-
# The kernel's result, entry by entry

Over the extended reals the kernel's sum over hops is, at every entry, the sum over all experts of `Rows`.
-/
module

public import proofs.«01_k».proof.Proof.Rows
public import proofs.«01_k».proof.Proof.Body
public import Idealize.ShloMosaic.Lib.Pipeline.ValueKit

@[expose] public section

noncomputable section

namespace Cert.MoeRing

open Cert.KernelIdeal Cert.KernelIdeal.Gen

open Idealize.ShloMosaic
open Idealize.ShloMosaic.TcCoe
open Idealize.SL.Sem

/-! ## The kernel's operations at an entry -/

section Ops
variable (x : Vec Ideal S512x256 .f32) (r : Vec Ideal S256x32 .f32) (i : Vec Ideal S512x1 .i32) (t j : Fin 512)

theorem gate_at : k0_pay7 (F := Ideal) x r i (ix2 t 0)
    = ∑ e : Fin 32, prob (fun k => x (ix2 t k)) (fun k e => r (ix2 k e)) e * ind (BitVec.ofNat 32 e.val) (i (ix2 t 0)) := by
  pointwise [k0_pay7, k0_pay6, k0_pay4]
  rfl

theorem shared_at (s : Vec Ideal S256x512 .f32) : k0_pay8 (F := Ideal) x s (ix2 t j) = ∑ k : Fin 256, x (ix2 t k) * s (ix2 k j) := by
  pointwise [k0_pay8, k0_pay4]

theorem addExpert_at (g : FVec Ideal S512x1 .f32) (a : FVec Ideal S512x512 .f32) (e : BitVec 32) (w : Blk Ideal) :
    addExpert (k0_pay5 x) (k0_pay6 (F := Ideal) i) g a e w (ix2 t j)
      = a (ix2 t j) + g (ix2 t 0) * ind (i (ix2 t 0)) e * ∑ k : Fin 256, x (ix2 t k) * w (ix3 0 k j) := by
  pointwise [addExpert, k0_pay5, k0_pay6, k0_pay4]
  rfl

end Ops

/-! ## Which expert is at hand at a hop -/

theorem expert_word (c : Fin 16) (h : Fin 16) (dd : Bool) :
    expert c h.val dd = BitVec.ofNat 32 (expertOf (owner c h.val dd) dd).val := by
  revert c h dd; decide +kernel

/-- The first coordinate of a block at position `0`, of the width of the whole array. -/
theorem at_zero (n v : ℕ) : 0 * n + 1 * v = v := by omega

variable (m : (ℓ : Loc nD τ sig) → Buf (Elt Ideal) ℓ) (ρ : Dev nD → PrngReg) (c : Dev nD)

theorem blk_owner (dd : Bool) (h : ℕ) : ∀ c, blk m ρ dd h c = W m ρ (owner c h dd) dd := by
  induction h with
  | zero =>
    intro c
    have : owner c 0 dd = c := by cases dd <;> (apply Fin.ext; exact Nat.mod_eq_of_lt c.isLt)
    rw [this]; rfl
  | succ h ih =>
    intro c
    have : owner (step (!dd) c) h dd = owner c (h + 1) dd := by
      cases dd
      · apply Fin.ext; show ((c.val + 1) % 16 + h) % 16 = (c.val + (h + 1)) % 16; omega
      · apply Fin.ext; show ((c.val + 15) % 16 + 15 * h) % 16 = (c.val + 15 * (h + 1)) % 16; omega
    rw [← this, ← ih]; rfl

/-! ## The arguments at an entry -/

theorem x_at : xIn m ρ c = m ((c : Thread nD τ).loc main_arg0) :=
  funext fun i => congrArg (m ((c : Thread nD τ).loc main_arg0)) (funext fun a => Fin.ext (at_zero _ (i a).val))
theorem rw_at : rwIn m ρ c = m ((c : Thread nD τ).loc main_arg1) :=
  funext fun i => congrArg (m ((c : Thread nD τ).loc main_arg1)) (funext fun a => Fin.ext (at_zero _ (i a).val))
theorem id_at : idIn m ρ c = m ((c : Thread nD τ).loc main_arg2) :=
  funext fun i => congrArg (m ((c : Thread nD τ).loc main_arg2)) (funext fun a => Fin.ext (at_zero _ (i a).val))
theorem ew_at : ewIn m ρ c = m ((c : Thread nD τ).loc main_arg3) :=
  funext fun i => congrArg (m ((c : Thread nD τ).loc main_arg3)) (funext fun a => Fin.ext (at_zero _ (i a).val))
theorem sw_at : swIn m ρ c = m ((c : Thread nD τ).loc main_arg4) :=
  funext fun i => congrArg (m ((c : Thread nD τ).loc main_arg4)) (funext fun a => Fin.ext (at_zero _ (i a).val))

theorem W_at (dd : Bool) (k : Fin 256) (j : Fin 512) : W m ρ c dd (ix3 0 k j) = m ((c : Thread nD τ).loc main_arg3) (ix3 (cond dd 0 1) k j) := by
  rw [← ew_at m ρ c]
  cases dd
  all_goals
    dsimp only [W, k0_pay2, k0_pay3]
    pointwise
    refine congrArg (ewIn m ρ c) (funext fun a => Fin.ext ?_)
    fin_cases a
    · rfl
    · exact at_zero 1 k.val
    · exact at_zero 1 j.val

/-! ## The sum over hops -/

/-- The weights of expert `e` that column `j` of the result uses: device `e / 2`'s block, its first or its second half. -/
def wcol (m : (ℓ : Loc nD τ sig) → Buf (Elt Ideal) ℓ) (j : Fin 512) (e : Fin 32) (k : Fin 256) : EReal :=
  m (((⟨e.val / 2, by have := e.isLt; show _ < 16; omega⟩ : Dev nD) : Thread nD τ).loc main_arg3) (ix3 ⟨e.val % 2, Nat.mod_lt _ (by decide)⟩ k j)

theorem W_col (dd : Bool) (k : Fin 256) (j : Fin 512) : W m ρ c dd (ix3 0 k j) = wcol m j (expertOf c dd) k := by
  have hd : (⟨(expertOf c dd).val / 2, by have := (expertOf c dd).isLt; show _ < 16; omega⟩ : Dev nD) = c := by
    cases dd <;> (apply Fin.ext; dsimp only [expertOf]; omega)
  have hp : (⟨(expertOf c dd).val % 2, Nat.mod_lt _ (by decide)⟩ : Fin 2) = cond dd 0 1 := by
    cases dd <;> (apply Fin.ext; dsimp only [expertOf, cond]; simp; try omega)
  rw [W_at]; unfold wcol; rw [hd, hp]

/-- A token's row, the router's matrix and a column of the shared weights, as device `c` has them. -/
def xrow (t : Fin 512) (k : Fin 256) : EReal := xIn m ρ c (ix2 t k)
def rmat (k : Fin 256) (e : Fin 32) : EReal := rwIn m ρ c (ix2 k e)
def scol (j : Fin 512) (k : Fin 256) : EReal := swIn m ρ c (ix2 k j)

/-- One token's share of the experts at hand at hop `h`, with the sum so far. -/
theorem hop_at (h : Fin 16) (dd : Bool) (a : FVec Ideal S512x512 .f32) (t j : Fin 512) :
    addExpert (k0_pay5 (xIn m ρ c)) (k0_pay6 (F := Ideal) (idIn m ρ c)) (k0_pay7 (xIn m ρ c) (rwIn m ρ c) (idIn m ρ c)) a
        (expert c h.val dd) (blk m ρ dd h.val c) (ix2 t j)
      = a (ix2 t j) + share (xrow m ρ c t) (rmat m ρ c) (wcol m j) (idIn m ρ c (ix2 t 0))
          (expertOf (owner c h.val dd) dd) := by
  rw [addExpert_at, gate_at, expert_word, blk_owner, ← share_gated]
  refine congrArg (a (ix2 t j) + ·) (congrArg (_ * ·) (Finset.sum_congr rfl fun k _ => ?_))
  rw [W_col]; rfl

theorem partialSum_at (t j : Fin 512) : ∀ h ≤ 16, partialSum m ρ c h (ix2 t j)
      = (∑ k, xrow m ρ c t k * scol m ρ c j k) + ∑ i ∈ Finset.range h,
          (share (xrow m ρ c t) (rmat m ρ c) (wcol m j) (idIn m ρ c (ix2 t 0)) (expertOf (owner c i true) true)
          + share (xrow m ρ c t) (rmat m ρ c) (wcol m j) (idIn m ρ c (ix2 t 0)) (expertOf (owner c i false) false)) := by
  intro h
  induction h with
  | zero => intro _; rw [Finset.sum_range_zero, add_zero]; exact shared_at _ t j _
  | succ h ih =>
    intro hh
    rw [Finset.sum_range_succ, ← add_assoc, ← add_assoc, ← ih (by omega)]
    exact (hop_at m ρ c ⟨h, by omega⟩ false _ t j).trans (congrArg (· + _) (hop_at m ρ c ⟨h, by omega⟩ true _ t j))

/-- The kernel's result on device `c`. -/
theorem out_at (t j : Fin 512) : outAt m ρ c (ix2 t j)
    = entry (xrow m ρ c t) (rmat m ρ c) (scol m ρ c j) (wcol m j) (idIn m ρ c (ix2 t 0)) := by
  show partialSum m ρ c 16 (ix2 t j) = _
  rw [partialSum_at m ρ c t j 16 le_rfl,
    sum_hops c (share (xrow m ρ c t) (rmat m ρ c) (wcol m j) (idIn m ρ c (ix2 t 0)))]
  rfl

end Cert.MoeRing

end
-- ==== Proof.Equal.lean ====
/-
# The kernel computes what the reference computes

Both results are, at every entry, the same sum over all experts; the devices' blocks of the arguments are rows of the
reference's arguments.
-/
module

public import proofs.«01_k».proof.Proof.Frames
public import proofs.«01_k».proof.Proof.RefFrame
public import proofs.«01_k».proof.Proof.Value
public import Idealize.ShloMosaic.Lib.LayoutAt

@[expose] public section

noncomputable section

namespace Cert.MoeRing

open Idealize.ShloMosaic
open Idealize.ShloMosaic.TcCoe
open Idealize.SL.Sem

/-! ## The reference's result -/

section Reference
open Cert.ReferenceIdeal Cert.ReferenceIdeal.Gen

/-- What the reference computes, from its five arguments. -/
def result (a0 : FVec Ideal S8192x256 .f32) (a1 : FVec Ideal S256x32 .f32) (a2 : IVec S8192x1 32) (a3 : FVec Ideal S32x256x512 .f32)
    (a4 : FVec Ideal S256x512 .f32) : FVec Ideal S8192x512 .f32 := fun i =>
  entry (fun k => a0 (ix2 (i 0) k)) (fun k e => a1 (ix2 k e)) (fun k => a4 (ix2 k (i 1))) (fun e k => a3 (ix3 e k (i 1))) (a2 (ix2 (i 0) 0))

variable (m : (ℓ : Loc nD τ sig) → Buf (Elt Ideal) ℓ) (ρ : Dev nD → PrngReg)

theorem run_reference : θ_run defs (onTc (τ := τ) (main (F := Ideal))) ⟨m, fun _ => 0, ρ⟩ fun r => ∀ c : Dev nD,
    r.2.mem ((c.tc : Thread nD τ).loc main_v23)
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  refine (θ_run defs _ _).mono (fun r h c => ⟨(h c).1.trans ?_, (h c).2⟩) (Value.run (F := Ideal) m ρ)
  generalize m ((c.tc : Thread nD τ).loc main_arg0) = a0
  generalize m ((c.tc : Thread nD τ).loc main_arg1) = a1
  generalize m ((c.tc : Thread nD τ).loc main_arg2) = a2
  generalize m ((c.tc : Thread nD τ).loc main_arg3) = a3
  generalize m ((c.tc : Thread nD τ).loc main_arg4) = a4
  funext j
  pointwise [result]
  unfold entry
  refine congrArg (_ + ·) (Finset.sum_congr rfl fun e _ => ?_)
  rw [← share_selected, ← Ideal.ofBits_zero_f32]
  rfl

end Reference

/-! ## The kernel's result -/

section Kernel
open Cert.KernelIdeal Cert.KernelIdeal.Gen
variable {F : FTy → Type} [FloatOps F]

theorem out_whole : win0_5.WholeAt t0_0 := ⟨by decide +kernel, fun t _ => fin_N0 t, by decide +kernel⟩

/-- The kernel's result array is written at one point, whole. -/
theorem finalA_out (m : (ℓ : Loc nD τ sig) → Buf (Elt F) ℓ) (ρ : Dev nD → PrngReg) (c : Dev nD) :
    finalA m ρ c (5 : Fin 6) = outAt m ρ c := by
  refine (dats m ρ 0 c).arrAt_eq_of_after_last (5 : Fin 6) t0_0 out_whole _ fun j => ?_
  blk_simp
  rfl

end Kernel

/-! ## Block by block -/

/-- Device `c`'s entries are those of the reference in its rows. -/
theorem block_result (m : (ℓ : Loc Cert.KernelIdeal.nD Cert.KernelIdeal.τ Cert.KernelIdeal.sig) → Buf (Elt Ideal) ℓ)
    (ρ : Dev Cert.KernelIdeal.nD → PrngReg)
    (a0 : FVec Ideal Cert.ReferenceIdeal.S8192x256 .f32) (a1 : FVec Ideal Cert.ReferenceIdeal.S256x32 .f32) (a2 : IVec Cert.ReferenceIdeal.S8192x1 32)
    (a3 : FVec Ideal Cert.ReferenceIdeal.S32x256x512 .f32) (a4 : FVec Ideal Cert.ReferenceIdeal.S256x512 .f32)
    (h0 : ∀ c : Dev Cert.KernelIdeal.nD, m ((c.tc : Thread Cert.KernelIdeal.nD Cert.KernelIdeal.τ).loc Cert.KernelIdeal.main_arg0)
      = Layout.block ⟨2, ![512, 256]⟩ ⟨2, ![8192, 256]⟩ 0 16 c a0)
    (h1 : ∀ c : Dev Cert.KernelIdeal.nD, m ((c.tc : Thread Cert.KernelIdeal.nD Cert.KernelIdeal.τ).loc Cert.KernelIdeal.main_arg1) = a1)
    (h2 : ∀ c : Dev Cert.KernelIdeal.nD, m ((c.tc : Thread Cert.KernelIdeal.nD Cert.KernelIdeal.τ).loc Cert.KernelIdeal.main_arg2)
      = Layout.block ⟨2, ![512, 1]⟩ ⟨2, ![8192, 1]⟩ 0 16 c a2)
    (h3 : ∀ c : Dev Cert.KernelIdeal.nD, m ((c.tc : Thread Cert.KernelIdeal.nD Cert.KernelIdeal.τ).loc Cert.KernelIdeal.main_arg3)
      = Layout.block ⟨3, ![2, 256, 512]⟩ ⟨3, ![32, 256, 512]⟩ 0 16 c a3)
    (h4 : ∀ c : Dev Cert.KernelIdeal.nD, m ((c.tc : Thread Cert.KernelIdeal.nD Cert.KernelIdeal.τ).loc Cert.KernelIdeal.main_arg4) = a4)
    (c : Dev Cert.KernelIdeal.nD) :
    outAt m ρ c = Layout.block ⟨2, ![512, 512]⟩ ⟨2, ![8192, 512]⟩ 0 16 c (result a0 a1 a2 a3 a4) := by
  funext i
  obtain ⟨t, j, rfl⟩ : ∃ (t : Fin 512) (j : Fin 512), i = ix2 t j := ⟨i 0, i 1, eq_ix2 i⟩
  rw [out_at]
  show _ = entry _ _ _ _ _
  congr 1
  · funext k; unfold xrow; rw [x_at, h0]; show a0 _ = a0 _; shard_ext
  · funext k e; unfold rmat; rw [rw_at, h1]
  · funext k; unfold scol; rw [sw_at, h4]; show a4 _ = a4 _; shard_ext
  · funext e k; unfold wcol; rw [h3]; show a3 _ = a3 _; shard_ext
  · rw [id_at, h2]; show a2 _ = a2 _; shard_ext

theorem equal : Cert.algebraic_KernelIdeal_ReferenceIdeal := fun m g m' g' _ hm =>
  ⟨_, (θ_run Cert.KernelIdeal.defs _ _).mono (fun r h c => ⟨((h.1 c (5 : Fin 6)).trans (finalA_out m g c)).trans
      (block_result m g _ _ _ _ _ (fun c => (hm c).1) (fun c => (hm c).2.1) (fun c => (hm c).2.2.1) (fun c => (hm c).2.2.2.1)
        (fun c => (hm c).2.2.2.2) c), kept m g r h.1 c⟩) (run_main m g),
    (θ_run Cert.ReferenceIdeal.defs _ _).mono (fun r h => h 0) (run_reference m' g')⟩

end Cert.MoeRing

end
-- ==== Proof.lean ====
/-
# The certificate

The kernel on the ring of sixteen devices, its reading over the extended reals, and the reference: each terminates with
its arguments unchanged and its counters at zero, and kernel and reference compute the same function over the extended
reals. The facts that the programs state come first, then the five claims in the order of their statement.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.Frames
public import proofs.«01_k».proof.Proof.RefFrame
public import proofs.«01_k».proof.Proof.Equal

@[expose] public section

noncomputable section

namespace Cert.Proof

open Idealize.ShloMosaic Idealize.SL.Sem Cert.Kernel

/-- The three frames, the passage to the extended reals (no operation is rewritten), and the equality of the results. -/
theorem claim : Cert.Claim :=
  ⟨Cert.Kernel.Gen.facts, Cert.KernelIdeal.Gen.facts, Cert.ReferenceIdeal.Gen.facts,
    Cert.MoeRing.frame_kernel, Cert.MoeRing.frame_ideal, Cert.MoeRing.frame_reference, trivial, Cert.MoeRing.equal⟩

end Cert.Proof

end
